-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_all_blocks_stored [hPre_all_blocks_stored : Cert.Pre_all_blocks_stored.Facts] (m : (ℓ : Loc Cert.KernelIdeal.nD Cert.KernelIdeal.τ Cert.KernelIdeal.sig) → Buf (Elt Ideal) ℓ) : Prop :=
  ∀ c : Dev Cert.KernelIdeal.nD,
    (Cert.Pre_all_blocks_stored.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_all_blocks_stored [hPre_all_blocks_stored : Cert.Pre_all_blocks_stored.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_all_blocks_stored.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_all_blocks_stored [hKernelIdeal : Cert.KernelIdeal.Facts] [hPre_all_blocks_stored : Cert.Pre_all_blocks_stored.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_all_blocks_stored m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_all_blocks_stored [hReferenceIdeal : Cert.ReferenceIdeal.Facts] [hPre_all_blocks_stored : Cert.Pre_all_blocks_stored.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_all_blocks_stored m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_all_blocks_stored [hKernelIdeal : Cert.KernelIdeal.Facts] [hReferenceIdeal : Cert.ReferenceIdeal.Facts] [hPre_all_blocks_stored : Cert.Pre_all_blocks_stored.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_all_blocks_stored m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_all_blocks_stored : Cert.Pre_all_blocks_stored.Facts),
    quiescent_Kernel (hKernel := hKernel)
    ∧ quiescent_KernelIdeal (hKernelIdeal := hKernelIdeal)
    ∧ quiescent_KernelIdeal_pre_all_blocks_stored (hKernelIdeal := hKernelIdeal) (hPre_all_blocks_stored := hPre_all_blocks_stored)
    ∧ quiescent_ReferenceIdeal (hReferenceIdeal := hReferenceIdeal)
    ∧ quiescent_ReferenceIdeal_pre_all_blocks_stored (hReferenceIdeal := hReferenceIdeal) (hPre_all_blocks_stored := hPre_all_blocks_stored)
    ∧ preserves_Kernel_KernelIdeal
    ∧ algebraic_KernelIdeal_ReferenceIdeal_pre_all_blocks_stored (hKernelIdeal := hKernelIdeal) (hReferenceIdeal := hReferenceIdeal) (hPre_all_blocks_stored := hPre_all_blocks_stored)
-- ==== Pre_all_blocks_stored.lean ====
abbrev S128x128 : Shape := ⟨2, ![128, 128]⟩
abbrev S524288x32 : Shape := ⟨2, ![524288, 32]⟩
abbrev S_ : Shape := ⟨0, ![]⟩

class Facts : Prop where
  reducesTo_S128x128_S_d0_1 : S128x128.ReducesTo [0, 1] S_
  h_S_ : 0 < S_.numel

variable [Facts]

def fn {F : FTy → Type} [FloatOps F] (main_arg0 : IVec S128x128 1) (main_arg1 : FVec F S524288x32 .f32) : IVec S_ 1 :=
  let main_c : IVec S_ 1 := constantI S_ 1 1#1
  let main_v0 : IVec S_ 1 := (fun x v => Host.reduce IntOp.andi x v reducesTo_S128x128_S_d0_1 h_S_) main_arg0 main_c
  main_v0
-- ==== Kernel.lean ====
abbrev S128x128 : Shape := ⟨2, ![128, 128]⟩
abbrev S524288x32 : Shape := ⟨2, ![524288, 32]⟩
abbrev S32x524288 : Shape := ⟨2, ![32, 524288]⟩
abbrev S4096x4096 : Shape := ⟨2, ![4096, 4096]⟩
abbrev S128 : Shape := ⟨1, ![128]⟩
abbrev S1 : Shape := ⟨1, ![1]⟩
abbrev S_ : Shape := ⟨0, ![]⟩
abbrev S32x4096 : Shape := ⟨2, ![32, 4096]⟩

abbrev nBuf : Space → Nat
  | .hbm => 4
  | .vmem => 0
  | .smem => 0
  | _ => 0

abbrev bufTy : (tb : Table) → Fin (tcTables nBuf tb) → BufTy
  | .hbm, ⟨0, _⟩ => ⟨S128x128, .i1⟩
  | .hbm, ⟨1, _⟩ => ⟨S524288x32, .f32⟩
  | .hbm, ⟨2, _⟩ => ⟨S32x524288, .f32⟩
  | .hbm, ⟨3, _⟩ => ⟨S4096x4096, .f32⟩
  | _, _ => ⟨S128x128, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 128 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | ⟨85, _⟩ => true
  | ⟨86, _⟩ => true
  | ⟨87, _⟩ => true
  | ⟨88, _⟩ => true
  | ⟨89, _⟩ => true
  | ⟨90, _⟩ => true
  | ⟨91, _⟩ => true
  | ⟨92, _⟩ => true
  | ⟨93, _⟩ => true
  | ⟨94, _⟩ => true
  | ⟨95, _⟩ => true
  | ⟨96, _⟩ => true
  | ⟨97, _⟩ => true
  | ⟨98, _⟩ => true
  | ⟨99, _⟩ => true
  | ⟨100, _⟩ => true
  | ⟨101, _⟩ => true
  | ⟨102, _⟩ => true
  | ⟨103, _⟩ => true
  | ⟨104, _⟩ => true
  | ⟨105, _⟩ => true
  | ⟨106, _⟩ => true
  | ⟨107, _⟩ => true
  | ⟨108, _⟩ => true
  | ⟨109, _⟩ => true
  | ⟨110, _⟩ => true
  | ⟨111, _⟩ => true
  | ⟨112, _⟩ => true
  | ⟨113, _⟩ => true
  | ⟨114, _⟩ => true
  | ⟨115, _⟩ => true
  | ⟨116, _⟩ => true
  | ⟨117, _⟩ => true
  | ⟨118, _⟩ => true
  | ⟨119, _⟩ => true
  | ⟨120, _⟩ => true
  | ⟨121, _⟩ => true
  | ⟨122, _⟩ => true
  | ⟨123, _⟩ => true
  | ⟨124, _⟩ => true
  | ⟨125, _⟩ => true
  | ⟨126, _⟩ => true
  | ⟨127, _⟩ => true
  | _ => false

abbrev sig : RefSig :=
  ofTc nBuf bufTy 0 128 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

abbrev grid0 : Pipeline.Grid := .none
-- ==== ReferenceIdeal.lean ====
abbrev S128x128 : Shape := ⟨2, ![128, 128]⟩
abbrev S524288x32 : Shape := ⟨2, ![524288, 32]⟩
abbrev S16384 : Shape := ⟨1, ![16384]⟩
abbrev S_ : Shape := ⟨0, ![]⟩
abbrev S16384x1 : Shape := ⟨2, ![16384, 1]⟩
abbrev S1 : Shape := ⟨1, ![1]⟩
abbrev S129 : Shape := ⟨1, ![129]⟩
abbrev S16385 : Shape := ⟨1, ![16385]⟩
abbrev S128 : Shape := ⟨1, ![128]⟩
abbrev S128x1 : Shape := ⟨2, ![128, 1]⟩
abbrev S16384x32x32 : Shape := ⟨3, ![16384, 32, 32]⟩
abbrev S128x128x32x32 : Shape := ⟨4, ![128, 128, 32, 32]⟩
abbrev S16384x2 : Shape := ⟨2, ![16384, 2]⟩
abbrev S128x32x128x32 : Shape := ⟨4, ![128, 32, 128, 32]⟩
abbrev S4096x4096 : Shape := ⟨2, ![4096, 4096]⟩

abbrev nBuf : Space → Nat
  | .hbm => 179
  | .vmem => 0
  | .smem => 0
  | _ => 0

abbrev hbmTy0_0 (i : Nat) : BufTy := match i % 128 with
  | 0 => ⟨S128x128, .i1⟩
  | 1 => ⟨S524288x32, .f32⟩
  | 2 => ⟨S16384, .i1⟩
  | 3 => ⟨S16384, .i32⟩
  | 4 => ⟨S_, .i32⟩
  | 5 => ⟨S_, .i32⟩
  | 6 => ⟨S16384, .i32⟩
  | 7 => ⟨S_, .i32⟩
  | 8 => ⟨S16384, .i32⟩
  | 9 => ⟨S_, .i32⟩
  | 10 => ⟨S16384, .i32⟩
  | 11 => ⟨S16384, .i1⟩
  | 12 => ⟨S_, .i32⟩
  | 13 => ⟨S16384, .i32⟩
  | 14 => ⟨S16384, .i32⟩
  | 15 => ⟨S16384, .i32⟩
  | 16 => ⟨S16384x1, .i32⟩
  | 17 => ⟨S_, .i32⟩
  | 18 => ⟨S16384, .i32⟩
  | 19 => ⟨S16384, .i32⟩
  | 20 => ⟨S_, .i32⟩
  | 21 => ⟨S_, .i32⟩
  | 22 => ⟨S16384, .i32⟩
  | 23 => ⟨S_, .i32⟩
  | 24 => ⟨S_, .i32⟩
  | 25 => ⟨S16384, .i32⟩
  | 26 => ⟨S16384, .i32⟩
  | 27 => ⟨S16384, .i32⟩
  | 28 => ⟨S_, .i32⟩
  | 29 => ⟨S16384, .i32⟩
  | 30 => ⟨S16384, .i1⟩
  | 31 => ⟨S16384, .i32⟩
  | 32 => ⟨S16384, .i32⟩
  | 33 => ⟨S_, .i32⟩
  | 34 => ⟨S16384, .i32⟩
  | 35 => ⟨S16384, .i1⟩
  | 36 => ⟨S16384, .i1⟩
  | 37 => ⟨S_, .i32⟩
  | 38 => ⟨S16384, .i32⟩
  | 39 => ⟨S16384, .i32⟩
  | 40 => ⟨S16384, .i32⟩
  | 41 => ⟨S_, .i32⟩
  | 42 => ⟨S_, .i32⟩
  | 43 => ⟨S_, .i32⟩
  | 44 => ⟨S_, .i1⟩
  | 45 => ⟨S_, .i32⟩
  | 46 => ⟨S_, .i32⟩
  | 47 => ⟨S16384, .i32⟩
  | 48 => ⟨S16384, .i32⟩
  | 49 => ⟨S_, .i32⟩
  | 50 => ⟨S16384, .i32⟩
  | 51 => ⟨S16384, .i1⟩
  | 52 => ⟨S_, .i32⟩
  | 53 => ⟨S16384, .i32⟩
  | 54 => ⟨S16384, .i1⟩
  | 55 => ⟨S_, .i32⟩
  | 56 => ⟨S_, .i1⟩
  | 57 => ⟨S16384, .i1⟩
  | 58 => ⟨S16384, .i1⟩
  | 59 => ⟨S16384, .i1⟩
  | 60 => ⟨S16384, .i32⟩
  | 61 => ⟨S16384, .i32⟩
  | 62 => ⟨S16384, .i32⟩
  | 63 => ⟨S_, .i32⟩
  | 64 => ⟨S_, .i32⟩
  | 65 => ⟨S16384, .i32⟩
  | 66 => ⟨S16384, .i32⟩
  | 67 => ⟨S16384, .i32⟩
  | 68 => ⟨S_, .i32⟩
  | 69 => ⟨S16384, .i32⟩
  | 70 => ⟨S16384, .i1⟩
  | 71 => ⟨S16384, .i32⟩
  | 72 => ⟨S16384, .i32⟩
  | 73 => ⟨S_, .i32⟩
  | 74 => ⟨S16384, .i32⟩
  | 75 => ⟨S16384, .i1⟩
  | 76 => ⟨S16384, .i1⟩
  | 77 => ⟨S_, .i32⟩
  | 78 => ⟨S16384, .i32⟩
  | 79 => ⟨S16384, .i32⟩
  | 80 => ⟨S16384, .i32⟩
  | 81 => ⟨S_, .i32⟩
  | 82 => ⟨S_, .i32⟩
  | 83 => ⟨S_, .i32⟩
  | 84 => ⟨S_, .i1⟩
  | 85 => ⟨S_, .i32⟩
  | 86 => ⟨S_, .i32⟩
  | 87 => ⟨S16384, .i32⟩
  | 88 => ⟨S16384, .i32⟩
  | 89 => ⟨S_, .i32⟩
  | 90 => ⟨S16384, .i32⟩
  | 91 => ⟨S16384, .i1⟩
  | 92 => ⟨S_, .i32⟩
  | 93 => ⟨S16384, .i32⟩
  | 94 => ⟨S16384, .i1⟩
  | 95 => ⟨S_, .i32⟩
  | 96 => ⟨S_, .i1⟩
  | 97 => ⟨S16384, .i1⟩
  | 98 => ⟨S16384, .i1⟩
  | 99 => ⟨S16384, .i1⟩
  | 100 => ⟨S16384, .i32⟩
  | 101 => ⟨S16384, .i32⟩
  | 102 => ⟨S16384, .i32⟩
  | 103 => ⟨S16384, .i32⟩
  | 104 => ⟨S_, .i32⟩
  | 105 => ⟨S_, .i32⟩
  | 106 => ⟨S1, .i32⟩
  | 107 => ⟨S16384, .i32⟩
  | 108 => ⟨S16384, .i32⟩
  | 109 => ⟨S16384, .i1⟩
  | 110 => ⟨S_, .i32⟩
  | 111 => ⟨S_, .i32⟩
  | 112 => ⟨S16384, .i32⟩
  | 113 => ⟨S16384, .i32⟩
  | 114 => ⟨S_, .i32⟩
  | 115 => ⟨S_, .i32⟩
  | 116 => ⟨S16384, .i32⟩
  | 117 => ⟨S16384, .i32⟩
  | 118 => ⟨S_, .i32⟩
  | 119 => ⟨S129, .i32⟩
  | 120 => ⟨S_, .i32⟩
  | 121 => ⟨S16384, .i32⟩
  | 122 => ⟨S16384, .i32⟩
  | 123 => ⟨S_, .i32⟩
  | 124 => ⟨S16384, .i32⟩
  | 125 => ⟨S16384, .i1⟩
  | 126 => ⟨S_, .i32⟩
  | 127 => ⟨S16384, .i32⟩
  | _ => ⟨S128x128, .i1⟩

abbrev hbmTy0_1 (i : Nat) : BufTy := match i % 128 with
  | 0 => ⟨S16384, .i32⟩
  | 1 => ⟨S16384, .i32⟩
  | 2 => ⟨S16384x1, .i32⟩
  | 3 => ⟨S_, .i32⟩
  | 4 => ⟨S16384, .i32⟩
  | 5 => ⟨S129, .i32⟩
  | 6 => ⟨S_, .i32⟩
  | 7 => ⟨S_, .i32⟩
  | 8 => ⟨S129, .i32⟩
  | 9 => ⟨S_, .i32⟩
  | 10 => ⟨S16385, .i32⟩
  | 11 => ⟨S128, .i32⟩
  | 12 => ⟨S_, .i32⟩
  | 13 => ⟨S128, .i32⟩
  | 14 => ⟨S128, .i1⟩
  | 15 => ⟨S_, .i32⟩
  | 16 => ⟨S128, .i32⟩
  | 17 => ⟨S128, .i32⟩
  | 18 => ⟨S128, .i32⟩
  | 19 => ⟨S128x1, .i32⟩
  | 20 => ⟨S_, .i32⟩
  | 21 => ⟨S128, .i32⟩
  | 22 => ⟨S16385, .i32⟩
  | 23 => ⟨S_, .i32⟩
  | 24 => ⟨S_, .i32⟩
  | 25 => ⟨S16385, .i32⟩
  | 26 => ⟨S16384, .i32⟩
  | 27 => ⟨S16384x32x32, .f32⟩
  | 28 => ⟨S16384x32x32, .f32⟩
  | 29 => ⟨S_, .f32⟩
  | 30 => ⟨S128x128x32x32, .f32⟩
  | 31 => ⟨S_, .i32⟩
  | 32 => ⟨S16384, .i32⟩
  | 33 => ⟨S16384, .i1⟩
  | 34 => ⟨S_, .i32⟩
  | 35 => ⟨S16384, .i32⟩
  | 36 => ⟨S16384, .i32⟩
  | 37 => ⟨S16384, .i32⟩
  | 38 => ⟨S_, .i32⟩
  | 39 => ⟨S16384, .i32⟩
  | 40 => ⟨S16384, .i1⟩
  | 41 => ⟨S_, .i32⟩
  | 42 => ⟨S16384, .i32⟩
  | 43 => ⟨S16384, .i32⟩
  | 44 => ⟨S16384, .i32⟩
  | 45 => ⟨S16384x1, .i32⟩
  | 46 => ⟨S16384x1, .i32⟩
  | 47 => ⟨S16384x2, .i32⟩
  | 48 => ⟨S128x128x32x32, .f32⟩
  | 49 => ⟨S128x32x128x32, .f32⟩
  | 50 => ⟨S4096x4096, .f32⟩
  | _ => ⟨S128x128, .i1⟩

abbrev hbmTy (i : Nat) : BufTy := match i / 128 with
  | 0 => hbmTy0_0 i
  | 1 => hbmTy0_1 i
  | _ => ⟨S128x128, .i1⟩

abbrev bufTy : (tb : Table) → Fin (tcTables nBuf tb) → BufTy
  | .hbm, ⟨i, _⟩ => hbmTy i
  | _, _ => ⟨S128x128, .i1⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_call0_v0 : Ref sig .tc := ⟨.hbm, 3, rfl⟩
abbrev main_call0_call0_c : Ref sig .tc := ⟨.hbm, 4, rfl⟩
abbrev main_call0_call0_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_c_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_c_2 : Ref sig .tc := ⟨.hbm, 17, rfl⟩
abbrev main_v9 : Ref sig .tc := ⟨.hbm, 18, rfl⟩
abbrev main_v10 : Ref sig .tc := ⟨.hbm, 19, rfl⟩
abbrev main_call1_call0_c : Ref sig .tc := ⟨.hbm, 20, rfl⟩
abbrev main_call1_call0_v0 : Ref sig .tc := ⟨.hbm, 21, rfl⟩
abbrev main_v11 : Ref sig .tc := ⟨.hbm, 22, rfl⟩
abbrev main_c_3 : Ref sig .tc := ⟨.hbm, 23, rfl⟩
abbrev main_call2_v0 : Ref sig .tc := ⟨.hbm, 24, rfl⟩
abbrev main_call2_v1 : Ref sig .tc := ⟨.hbm, 25, rfl⟩
abbrev main_call2_v2 : Ref sig .tc := ⟨.hbm, 26, rfl⟩
abbrev main_call2_v3 : Ref sig .tc := ⟨.hbm, 27, rfl⟩
abbrev main_call2_v4 : Ref sig .tc := ⟨.hbm, 28, rfl⟩
abbrev main_call2_v5 : Ref sig .tc := ⟨.hbm, 29, rfl⟩
abbrev main_call2_v6 : Ref sig .tc := ⟨.hbm, 30, rfl⟩
abbrev main_call2_v7 : Ref sig .tc := ⟨.hbm, 31, rfl⟩
abbrev main_call2_v8 : Ref sig .tc := ⟨.hbm, 32, rfl⟩
abbrev main_call2_c : Ref sig .tc := ⟨.hbm, 33, rfl⟩
abbrev main_call2_v9 : Ref sig .tc := ⟨.hbm, 34, rfl⟩
abbrev main_call2_v10 : Ref sig .tc := ⟨.hbm, 35, rfl⟩
abbrev main_call2_v11 : Ref sig .tc := ⟨.hbm, 36, rfl⟩
abbrev main_call2_c_0 : Ref sig .tc := ⟨.hbm, 37, rfl⟩
abbrev main_call2_v12 : Ref sig .tc := ⟨.hbm, 38, rfl⟩
abbrev main_call2_v13 : Ref sig .tc := ⟨.hbm, 39, rfl⟩
abbrev main_v12 : Ref sig .tc := ⟨.hbm, 40, rfl⟩
abbrev main_c_4 : Ref sig .tc := ⟨.hbm, 41, rfl⟩
abbrev main_call3_v0 : Ref sig .tc := ⟨.hbm, 42, rfl⟩
abbrev main_call3_c : Ref sig .tc := ⟨.hbm, 43, rfl⟩
abbrev main_call3_v1 : Ref sig .tc := ⟨.hbm, 44, rfl⟩
abbrev main_call3_c_0 : Ref sig .tc := ⟨.hbm, 45, rfl⟩
abbrev main_call3_v2 : Ref sig .tc := ⟨.hbm, 46, rfl⟩
abbrev main_call3_v3 : Ref sig .tc := ⟨.hbm, 47, rfl⟩
abbrev main_call3_v4 : Ref sig .tc := ⟨.hbm, 48, rfl⟩
abbrev main_call3_c_1 : Ref sig .tc := ⟨.hbm, 49, rfl⟩
abbrev main_call3_v5 : Ref sig .tc := ⟨.hbm, 50, rfl⟩
abbrev main_call3_v6 : Ref sig .tc := ⟨.hbm, 51, rfl⟩
abbrev main_call3_c_2 : Ref sig .tc := ⟨.hbm, 52, rfl⟩
abbrev main_call3_v7 : Ref sig .tc := ⟨.hbm, 53, rfl⟩
abbrev main_call3_v8 : Ref sig .tc := ⟨.hbm, 54, rfl⟩
abbrev main_call3_c_3 : Ref sig .tc := ⟨.hbm, 55, rfl⟩
abbrev main_call3_v9 : Ref sig .tc := ⟨.hbm, 56, rfl⟩
abbrev main_call3_v10 : Ref sig .tc := ⟨.hbm, 57, rfl⟩
abbrev main_call3_v11 : Ref sig .tc := ⟨.hbm, 58, rfl⟩
abbrev main_call3_v12 : Ref sig .tc := ⟨.hbm, 59, rfl⟩
abbrev main_call3_v13 : Ref sig .tc := ⟨.hbm, 60, rfl⟩
abbrev main_call3_v14 : Ref sig .tc := ⟨.hbm, 61, rfl⟩
abbrev main_v13 : Ref sig .tc := ⟨.hbm, 62, rfl⟩
abbrev main_c_5 : Ref sig .tc := ⟨.hbm, 63, rfl⟩
abbrev main_call4_v0 : Ref sig .tc := ⟨.hbm, 64, rfl⟩
abbrev main_call4_v1 : Ref sig .tc := ⟨.hbm, 65, rfl⟩
abbrev main_call4_v2 : Ref sig .tc := ⟨.hbm, 66, rfl⟩
abbrev main_call4_v3 : Ref sig .tc := ⟨.hbm, 67, rfl⟩
abbrev main_call4_v4 : Ref sig .tc := ⟨.hbm, 68, rfl⟩
abbrev main_call4_v5 : Ref sig .tc := ⟨.hbm, 69, rfl⟩
abbrev main_call4_v6 : Ref sig .tc := ⟨.hbm, 70, rfl⟩
abbrev main_call4_v7 : Ref sig .tc := ⟨.hbm, 71, rfl⟩
abbrev main_call4_v8 : Ref sig .tc := ⟨.hbm, 72, rfl⟩
abbrev main_call4_c : Ref sig .tc := ⟨.hbm, 73, rfl⟩
abbrev main_call4_v9 : Ref sig .tc := ⟨.hbm, 74, rfl⟩
abbrev main_call4_v10 : Ref sig .tc := ⟨.hbm, 75, rfl⟩
abbrev main_call4_v11 : Ref sig .tc := ⟨.hbm, 76, rfl⟩
abbrev main_call4_c_0 : Ref sig .tc := ⟨.hbm, 77, rfl⟩
abbrev main_call4_v12 : Ref sig .tc := ⟨.hbm, 78, rfl⟩
abbrev main_call4_v13 : Ref sig .tc := ⟨.hbm, 79, rfl⟩
abbrev main_v14 : Ref sig .tc := ⟨.hbm, 80, rfl⟩
abbrev main_c_6 : Ref sig .tc := ⟨.hbm, 81, rfl⟩
abbrev main_call5_v0 : Ref sig .tc := ⟨.hbm, 82, rfl⟩
abbrev main_call5_c : Ref sig .tc := ⟨.hbm, 83, rfl⟩
abbrev main_call5_v1 : Ref sig .tc := ⟨.hbm, 84, rfl⟩
abbrev main_call5_c_0 : Ref sig .tc := ⟨.hbm, 85, rfl⟩
abbrev main_call5_v2 : Ref sig .tc := ⟨.hbm, 86, rfl⟩
abbrev main_call5_v3 : Ref sig .tc := ⟨.hbm, 87, rfl⟩
abbrev main_call5_v4 : Ref sig .tc := ⟨.hbm, 88, rfl⟩
abbrev main_call5_c_1 : Ref sig .tc := ⟨.hbm, 89, rfl⟩
abbrev main_call5_v5 : Ref sig .tc := ⟨.hbm, 90, rfl⟩
abbrev main_call5_v6 : Ref sig .tc := ⟨.hbm, 91, rfl⟩
abbrev main_call5_c_2 : Ref sig .tc := ⟨.hbm, 92, rfl⟩
abbrev main_call5_v7 : Ref sig .tc := ⟨.hbm, 93, rfl⟩
abbrev main_call5_v8 : Ref sig .tc := ⟨.hbm, 94, rfl⟩
abbrev main_call5_c_3 : Ref sig .tc := ⟨.hbm, 95, rfl⟩
abbrev main_call5_v9 : Ref sig .tc := ⟨.hbm, 96, rfl⟩
abbrev main_call5_v10 : Ref sig .tc := ⟨.hbm, 97, rfl⟩
abbrev main_call5_v11 : Ref sig .tc := ⟨.hbm, 98, rfl⟩
abbrev main_call5_v12 : Ref sig .tc := ⟨.hbm, 99, rfl⟩
abbrev main_call5_v13 : Ref sig .tc := ⟨.hbm, 100, rfl⟩
abbrev main_call5_v14 : Ref sig .tc := ⟨.hbm, 101, rfl⟩
abbrev main_v15 : Ref sig .tc := ⟨.hbm, 102, rfl⟩
abbrev main_v16 : Ref sig .tc := ⟨.hbm, 103, rfl⟩
abbrev main_c_7 : Ref sig .tc := ⟨.hbm, 104, rfl⟩
abbrev main_v17 : Ref sig .tc := ⟨.hbm, 105, rfl⟩
abbrev main_v18 : Ref sig .tc := ⟨.hbm, 106, rfl⟩
abbrev main_v19 : Ref sig .tc := ⟨.hbm, 107, rfl⟩
abbrev main_v20 : Ref sig .tc := ⟨.hbm, 108, rfl⟩
abbrev main_v21 : Ref sig .tc := ⟨.hbm, 109, rfl⟩
abbrev main_c_8 : Ref sig .tc := ⟨.hbm, 110, rfl⟩
abbrev main_call6_v0 : Ref sig .tc := ⟨.hbm, 111, rfl⟩
abbrev main_call6_v1 : Ref sig .tc := ⟨.hbm, 112, rfl⟩
abbrev main_v22 : Ref sig .tc := ⟨.hbm, 113, rfl⟩
abbrev main_c_9 : Ref sig .tc := ⟨.hbm, 114, rfl⟩
abbrev main_call7_v0 : Ref sig .tc := ⟨.hbm, 115, rfl⟩
abbrev main_call7_v1 : Ref sig .tc := ⟨.hbm, 116, rfl⟩
abbrev main_v23 : Ref sig .tc := ⟨.hbm, 117, rfl⟩
abbrev main_c_10 : Ref sig .tc := ⟨.hbm, 118, rfl⟩
abbrev main_v24 : Ref sig .tc := ⟨.hbm, 119, rfl⟩
abbrev main_c_11 : Ref sig .tc := ⟨.hbm, 120, rfl⟩
abbrev main_v25 : Ref sig .tc := ⟨.hbm, 121, rfl⟩
abbrev main_v26 : Ref sig .tc := ⟨.hbm, 122, rfl⟩
abbrev main_c_12 : Ref sig .tc := ⟨.hbm, 123, rfl⟩
abbrev main_v27 : Ref sig .tc := ⟨.hbm, 124, rfl⟩
abbrev main_v28 : Ref sig .tc := ⟨.hbm, 125, rfl⟩
abbrev main_c_13 : Ref sig .tc := ⟨.hbm, 126, rfl⟩
abbrev main_v29 : Ref sig .tc := ⟨.hbm, 127, rfl⟩
abbrev main_v30 : Ref sig .tc := ⟨.hbm, 128, rfl⟩
abbrev main_v31 : Ref sig .tc := ⟨.hbm, 129, rfl⟩
abbrev main_v32 : Ref sig .tc := ⟨.hbm, 130, rfl⟩
abbrev main_c_14 : Ref sig .tc := ⟨.hbm, 131, rfl⟩
abbrev main_v33 : Ref sig .tc := ⟨.hbm, 132, rfl⟩
abbrev main_v34 : Ref sig .tc := ⟨.hbm, 133, rfl⟩
abbrev main_call8_call0_c : Ref sig .tc := ⟨.hbm, 134, rfl⟩
abbrev main_call8_call0_v0 : Ref sig .tc := ⟨.hbm, 135, rfl⟩
abbrev main_v35 : Ref sig .tc := ⟨.hbm, 136, rfl⟩
abbrev main_c_15 : Ref sig .tc := ⟨.hbm, 137, rfl⟩
abbrev main_v36 : Ref sig .tc := ⟨.hbm, 138, rfl⟩
abbrev main_v37 : Ref sig .tc := ⟨.hbm, 139, rfl⟩
abbrev main_c_16 : Ref sig .tc := ⟨.hbm, 140, rfl⟩
abbrev main_v38 : Ref sig .tc := ⟨.hbm, 141, rfl⟩
abbrev main_v39 : Ref sig .tc := ⟨.hbm, 142, rfl⟩
abbrev main_c_17 : Ref sig .tc := ⟨.hbm, 143, rfl⟩
abbrev main_v40 : Ref sig .tc := ⟨.hbm, 144, rfl⟩
abbrev main_v41 : Ref sig .tc := ⟨.hbm, 145, rfl⟩
abbrev main_v42 : Ref sig .tc := ⟨.hbm, 146, rfl⟩
abbrev main_v43 : Ref sig .tc := ⟨.hbm, 147, rfl⟩
abbrev main_c_18 : Ref sig .tc := ⟨.hbm, 148, rfl⟩
abbrev main_v44 : Ref sig .tc := ⟨.hbm, 149, rfl⟩
abbrev main_v45 : Ref sig .tc := ⟨.hbm, 150, rfl⟩
abbrev main_call9_call0_c : Ref sig .tc := ⟨.hbm, 151, rfl⟩
abbrev main_call9_call0_v0 : Ref sig .tc := ⟨.hbm, 152, rfl⟩
abbrev main_v46 : Ref sig .tc := ⟨.hbm, 153, rfl⟩
abbrev main_v47 : Ref sig .tc := ⟨.hbm, 154, rfl⟩
abbrev main_v48 : Ref sig .tc := ⟨.hbm, 155, rfl⟩
abbrev main_v49 : Ref sig .tc := ⟨.hbm, 156, rfl⟩
abbrev main_cst : Ref sig .tc := ⟨.hbm, 157, rfl⟩
abbrev main_v50 : Ref sig .tc := ⟨.hbm, 158, rfl⟩
abbrev main_c_19 : Ref sig .tc := ⟨.hbm, 159, rfl⟩
abbrev main_v51 : Ref sig .tc := ⟨.hbm, 160, rfl⟩
abbrev main_v52 : Ref sig .tc := ⟨.hbm, 161, rfl⟩
abbrev main_c_20 : Ref sig .tc := ⟨.hbm, 162, rfl⟩
abbrev main_v53 : Ref sig .tc := ⟨.hbm, 163, rfl⟩
abbrev main_v54 : Ref sig .tc := ⟨.hbm, 164, rfl⟩
abbrev main_v55 : Ref sig .tc := ⟨.hbm, 165, rfl⟩
abbrev main_c_21 : Ref sig .tc := ⟨.hbm, 166, rfl⟩
abbrev main_v56 : Ref sig .tc := ⟨.hbm, 167, rfl⟩
abbrev main_v57 : Ref sig .tc := ⟨.hbm, 168, rfl⟩
abbrev main_c_22 : Ref sig .tc := ⟨.hbm, 169, rfl⟩
abbrev main_v58 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_v62 : Ref sig .tc := ⟨.hbm, 174, rfl⟩
abbrev main_v63 : Ref sig .tc := ⟨.hbm, 175, rfl⟩
abbrev main_v64 : Ref sig .tc := ⟨.hbm, 176, rfl⟩
abbrev main_v65 : Ref sig .tc := ⟨.hbm, 177, rfl⟩
abbrev main_v66 : Ref sig .tc := ⟨.hbm, 178, rfl⟩

abbrev nD : Nat := 1
abbrev τ : Topo := Topo.v7x

variable {F : FTy → Type} [FloatOps F]
-- ==== Proof.Fan.lean ====
/-
  Many local copies in flight at once, one semaphore each: a program that issues one transfer per member of a list and then
  waits for each, run by induction on the list. Nothing here is about a particular kernel: the sources, the destinations and
  the semaphores are any families of memrefs and cells.
-/
module

public import Idealize.ShloMosaic.Lib.Transfers
public import Idealize.ShloMosaic.Lib.Ring
public import Idealize.ShloMosaic.Lib.Tactic
public import Idealize.ShloMosaic.Lib.Pipeline.BigSepL

@[expose] public section

noncomputable section

namespace Cert.Fan

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Ix : Type} [DecidableEq Ix] {Val : EltTy → Type} {Name : Type} [DecidableEq Name]
variable {U : Type} [URA U] {Lvl : Type} [Preorder Lvl] {Λ : Labels} {J : Type}

local notation "𝕄" => MT nD τ sig Ix Val Name U Lvl

/-- Three families held member by member, as one family of triples. -/
theorem bigSepL_three {M : Type} [URA M] {J : Type} (l : List J) (A B C : J → sProp M) :
    (bigSepL l fun j => iprop(A j ∗ B j ∗ C j)) ⊣⊢ iprop(bigSepL l A ∗ bigSepL l B ∗ bigSepL l C) := by
  induction l with
  | nil =>
    simp only [bigSepL_nil]
    have h : iprop((BI.emp : sProp M) ∗ (BI.emp : sProp M)) = BI.emp := equiv_iff.mp BI.emp_sep
    rw [h, h]
  | cons j l ih =>
    simp only [bigSepL_cons']
    constructor
    · iintro ⟨⟨Ha, Hb, Hc⟩, H⟩
      ihave H := ih.1 $$ H
      icases H with ⟨HA, HB, HC⟩
      isplitl [Ha HA]; · isplitl [Ha] <;> iassumption
      isplitl [Hb HB]; · isplitl [Hb] <;> iassumption
      isplitl [Hc] <;> iassumption
    · iintro ⟨⟨Ha, HA⟩, ⟨Hb, HB⟩, ⟨Hc, HC⟩⟩
      isplitl [Ha Hb Hc]
      · isplitl [Ha]; · iexact Ha
        isplitl [Hb] <;> iassumption
      iapply ih.2
      isplitl [HA]; · iexact HA
      isplitl [HB] <;> iassumption

/-- One request per member of the list, in order, then `p`. -/
def each {E : Type → Type} (e : J → E PUnit) : List J → Prog E PUnit → Prog E PUnit
  | [], p => p
  | j :: js, p => .op (e j) fun _ => each e js p

/-- Requests run one by one: if each turns its own `A j`, beside a common `S`, into `B j` beside `S`, then the list of
    them turns all the `A j` into all the `B j`. -/
theorem wp_each {defs : Defs nD τ sig Val Λ} (𝒱 : Variants) (c : Thread nD τ) (bd : Option 𝒱.V)
    (e : J → TpuEff nD τ sig Val Λ c.2 PUnit) (A B : J → sProp 𝕄) (S : sProp 𝕄) (Q : PUnit → sProp 𝕄)
    (h : ∀ j (k : PUnit → Prog (TpuEff nD τ sig Val Λ c.2) PUnit),
      iprop(A j ∗ S) ⊢ iprop((iprop(B j ∗ S) -∗ wp frame (wpE defs 𝒱 c bd) Set.univ (k ⟨⟩) Q)
        -∗ wp frame (wpE defs 𝒱 c bd) Set.univ (.op (e j) k) Q))
    (js : List J) (p : Prog (TpuEff nD τ sig Val Λ c.2) PUnit) :
    iprop(bigSepL js A ∗ S) ⊢ iprop((iprop(bigSepL js B ∗ S) -∗ wp frame (wpE defs 𝒱 c bd) Set.univ p Q)
      -∗ wp frame (wpE defs 𝒱 c bd) Set.univ (each e js p) Q) := by
  induction js with
  | nil =>
    unfold each
    simp only [bigSepL_nil]
    iintro H Hk
    iapply Hk; iexact H
  | cons j js ih =>
    unfold each
    rw [bigSepL_cons', bigSepL_cons']
    iintro ⟨⟨Hj, Hjs⟩, HS⟩ Hk
    iapply (h j) $$ [Hj HS]
    · isplitl [Hj] <;> iassumption
    iintro ⟨HB, HS⟩
    iapply ih $$ [Hjs HS]
    · isplitl [Hjs] <;> iassumption
    iintro ⟨HBs, HS⟩
    iapply Hk
    isplitl [HB HBs]
    · isplitl [HB] <;> iassumption
    iexact HS

variable (EC : UEmb Counters (MT nD τ sig Ix Val Name U Lvl))

section Copies

variable {sp sp' : Space} {s : Shape} {e : EltTy} (c : Thread nD τ)
  (src : J → Memref sig c.2.kind sp s e) (dst : J → Memref sig c.2.kind sp' s e) (sem : J → DmaSem sig)
  (hsrc : ∀ j, (src j).view.WordExact) (hdst : ∀ j, (dst j).view.WordExact)
  (hsem : ∀ j, DmaTarget.Typed (nD := nD) (τ := τ) sp (SemLoc.dma (sem j)) (.here (dst j) : DmaTarget nD τ sig c.2 sp' s e))

/-- Start member `j`'s copy. -/
def start (j : J) : TpuEff nD τ sig Val Λ c.2 PUnit :=
  .enqueueDma (src j) (.here (dst j)) (.dma (sem j)) (hsrc j) (hdst j) (hsem j)

/-- Wait for member `j`'s copy. -/
def finish (j : J) : TpuEff nD τ sig Val Λ c.2 PUnit :=
  .waitDma2 (sem j) (src j) (dst j) (hsrc j) (hdst j)

/-- Every copy is started, then every copy is waited for. From the sources at any share, the destinations at the full
    share and the semaphores at zero, the program continues with the sources as they were, each destination rewritten
    with what its source reads, and the semaphores at zero again. -/
theorem wp_fan [Infinite Name] [EC.LandsIn (upEmb : UEmb _ 𝕄)] {defs : Defs nD τ sig Val Λ} (𝒱 : Variants) (bd : Option 𝒱.V) (ι : Ix) (N : ℕ) (hN0 : 0 < N)
    (hN : ∀ j, (dst j).view.amount (SemLoc.dma (sem j)) = N) (hN' : ∀ j, (dst j).view.dmaCredit = N)
    {q : PosShare TreeShare} (fs : ∀ j, Buf Val ((src j).view.loc c)) (fd : ∀ j, Buf Val ((dst j).view.loc c))
    (js : List J) (p : Prog (TpuEff nD τ sig Val Λ c.2) PUnit) (Q : PUnit → sProp 𝕄) :
    iprop((bigSepL js fun j => iprop(((src j).view.loc c ↦[(src j).view.set]{q} fs j)
          ∗ ((dst j).view.loc c ↦[(dst j).view.set]{fullShare} fd j) ∗ semVal (c, SemLoc.dma (sem j)) 0))
        ∗ iprop(∃ W, owes c 0 W))
      ⊢ iprop((iprop((bigSepL js fun j => iprop(((src j).view.loc c ↦[(src j).view.set]{q} fs j)
            ∗ ((dst j).view.loc c ↦[(dst j).view.set]{fullShare}
                (dst j).view.write Val (fd j) ((src j).view.read Val (fs j)) Finset.univ)
            ∗ semVal (c, SemLoc.dma (sem j)) 0))
          ∗ iprop(∃ W, owes c 0 W)) -∗ wp frame (wpE defs 𝒱 c bd) Set.univ p Q)
        -∗ wp frame (wpE defs 𝒱 c bd) Set.univ
            (each (start c src dst sem hsrc hdst hsem) js (each (finish c src dst sem hsrc hdst) js p)) Q) := by
  let D : J → sProp 𝕄 := fun j => iprop(((dst j).view.loc c ↦[(dst j).view.set]{fullShare}
      (dst j).view.write Val (fd j) ((src j).view.read Val (fs j)) Finset.univ)
    ∗ ((src j).view.loc c ↦[(src j).view.set]{q} fs j))
  iintro H Hk
  iapply (wp_each 𝒱 c bd (start c src dst sem hsrc hdst hsem) _ (fun j => Transfers.Flight EC c (SemLoc.dma (sem j)) ι N (D j))
    iprop(∃ W, owes c 0 W) Q (fun j k => by
      iintro ⟨⟨Hs, Hd, Hv⟩, HW⟩ Hk
      iapply (Transfers.wp_dmaLocal EC 𝒱 c bd ι N (hN j) hN0 subset_rfl) $$ [Hs Hd Hv]
      · isplitl [Hs]; · iexact Hs
        isplitl [Hd] <;> iassumption
      iintro HF
      iapply Hk
      isplitl [HF]; · iexact HF
      iexact HW) js) $$ H
  iintro H
  iapply (wp_each 𝒱 c bd (finish c src dst sem hsrc hdst) (fun j => Transfers.Flight EC c (SemLoc.dma (sem j)) ι N (D j))
    (fun j => iprop(((src j).view.loc c ↦[(src j).view.set]{q} fs j)
            ∗ ((dst j).view.loc c ↦[(dst j).view.set]{fullShare}
                (dst j).view.write Val (fd j) ((src j).view.read Val (fs j)) Finset.univ)
            ∗ semVal (c, SemLoc.dma (sem j)) 0))
    iprop(∃ W, owes c 0 W) Q (fun j k => by
      iintro ⟨HF, ⟨%W, HW⟩⟩ Hk
      iapply (Transfers.wp_waitLocal EC 𝒱 c bd (srcw := src j) (dstw := dst j) (hsrc := hsrc j) (hdst := hdst j) ι (hN' j)) $$ [HF HW]
      · isplitl [HF] <;> iassumption
      iintro ⟨⟨Hd, Hs⟩, Hv, HW⟩
      iapply Hk
      isplitl [Hd Hs Hv]
      · isplitl [Hs]; · iexact Hs
        isplitl [Hd] <;> iassumption
      iexists _; iexact HW) js) $$ H
  iexact Hk

end Copies

end Cert.Fan

end
-- ==== Proof.RunIdeal.lean ====
/-
  The run of the program `Cert.KernelIdeal`: a transpose of the block data on the host, then 128 copies of one 32-row panel
  each out of the transposed data, panel j of the columns 4096 j … 4096 j + 4095, into rows 32 j … 32 j + 31 of the result.
  Stated at any float values.
-/
module

public import proofs.«01_k».proof.Proof.Gen.KernelIdeal.Frame
public import proofs.«01_k».proof.Proof.Gen.KernelIdeal.Skeleton
public import proofs.«01_k».proof.Proof.Fan
public import Idealize.ShloMosaic.Lib.Pipeline.FrameValue
public import Idealize.ShloMosaic.Lib.Pipeline.FrameBody
public import Idealize.ShloMosaic.Lib.Pipeline.ValueKit.Geometry
public import Idealize.ShloMosaic.Lib.ValueIdxCore

@[expose] public section

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat Cfg Window BodyObligation cellOf)

variable {F : FTy → Type} [FloatOps F]

/-! ## The panels and the semaphores -/

/-- The columns of panel `j` lie inside the transposed data. -/
theorem inb_src (j : Fin 128) : ∀ a, (![0, 4096 * j.val] : Fin 2 → Nat) a + S32x4096.size a ≤ S32x524288.size a := by
  have := j.isLt
  refine fun a => Fin.cases ?_ (fun b => Fin.cases ?_ (fun c => c.elim0) b) a
  · show 0 + 32 ≤ 32; omega
  · show 4096 * j.val + 4096 ≤ 524288; omega

/-- The rows of panel `j` lie inside the result. -/
theorem inb_dst (j : Fin 128) : ∀ a, (![32 * j.val, 0] : Fin 2 → Nat) a + S32x4096.size a ≤ S4096x4096.size a := by
  have := j.isLt
  refine fun a => Fin.cases ?_ (fun b => Fin.cases ?_ (fun c => c.elim0) b) a
  · show 32 * j.val + 32 ≤ 4096; omega
  · show 0 + 4096 ≤ 4096; omega

/-- There are 128 semaphores. -/
theorem inb_sem (j : Fin 128) : ∀ a, (![j.val] : Fin 1 → Nat) a + S1.size a ≤ S128.size a := by
  have := j.isLt
  refine fun a => Fin.cases ?_ (fun c => c.elim0) a
  show j.val + 1 ≤ 128; omega

/-- Panel `j` of the transposed data. -/
abbrev src (j : Fin 128) : Memref sig .tc .hbm S32x4096 .f32 :=
  (Memref.whole main_v0).slice (Rect.unit (s := S32x524288) ![0, 4096 * j.val] S32x4096.size (inb_src j)) (fun _ => rfl)

/-- Panel `j` of the result. -/
abbrev dst (j : Fin 128) : Memref sig .tc .hbm S32x4096 .f32 :=
  (Memref.whole main_v1).slice (Rect.unit (s := S4096x4096) ![32 * j.val, 0] S32x4096.size (inb_dst j)) (fun _ => rfl)

/-- The semaphore copy `j` completes on. -/
abbrev sem (j : Fin 128) : DmaSem sig :=
  ((cc0_scratch0.slice (Rect.unit (s := S128) ![j.val] S1.size (inb_sem j))).squeeze S_ Facts₀.squeezes_S1_S_).sem

theorem src_exact (j : Fin 128) : (src j).view.WordExact := View.wordExact_bits rfl
theorem dst_exact (j : Fin 128) : (dst j).view.WordExact := View.wordExact_bits rfl
theorem typed (j : Fin 128) :
    DmaTarget.Typed (nD := nD) (τ := τ) .hbm (SemLoc.dma (sem j)) (.here (dst j) : DmaTarget nD τ sig .tc .hbm S32x4096 .f32) :=
  ⟨Or.inl rfl, trivial⟩

/-- The copies in the order the kernel starts them. -/
def order : List (Fin 128) := List.finRange 128

/-- The kernel's body starts the 128 copies in order and then waits for them in order. -/
theorem body_eq (c : Dev nD) : cc0__dma_body (F := F) (Memref.whole main_v0) (Memref.isWhole_whole _) (Memref.whole main_v1) (Memref.isWhole_whole _) cc0_scratch0
    = Fan.each (Fan.start (c : Thread nD τ) src dst sem src_exact dst_exact typed) order
        (Fan.each (Fan.finish (c : Thread nD τ) src dst sem src_exact dst_exact) order (pure ⟨⟩)) := by
  sl_kernel_rfl

theorem sem_eq : ∀ j : Fin 128, sem j = j := by decide

/-- The kernel's own semaphores, by the copy that uses them. -/
abbrev osem0 (j : Fin 128) : SemLoc sig := SemLoc.dma (sem j)

theorem ownSemFacts0 : Pipeline.OwnSemFacts (cfg0.spec) osem0 where
  isScoped := by decide
  inj := fun a b h => by
    have h' : sem a = sem b := SemLoc.dma.inj h
    rwa [sem_eq, sem_eq] at h'
  disj := fun _ w => w.elim0

/-! ## The panels cover the two arrays -/

/-- An element of the transposed data lies in panel `j` exactly when its column does. -/
theorem mem_src (j : Fin 128) (i : S32x524288.Idx) :
    i ∈ (src j).view.set ↔ 4096 * j.val ≤ (i 1).val ∧ (i 1).val < 4096 * j.val + 4096 := by
  refine ValueKit.mem_set_slice_whole_iff main_v0 _ i (Rect.mem_set_unit.trans ?_)
  have h0 : (i 0).val < 32 := (i 0).isLt
  refine ⟨fun h => h 1, fun h a => ?_⟩
  refine Fin.cases ?_ (fun b => Fin.cases ?_ (fun c => c.elim0) b) a
  · show 0 ≤ (i 0).val ∧ (i 0).val < 0 + 32; omega
  · exact h

/-- An element of the result lies in panel `j` exactly when its row does. -/
theorem mem_dst (j : Fin 128) (i : S4096x4096.Idx) :
    i ∈ (dst j).view.set ↔ 32 * j.val ≤ (i 0).val ∧ (i 0).val < 32 * j.val + 32 := by
  refine ValueKit.mem_set_slice_whole_iff main_v1 _ i (Rect.mem_set_unit.trans ?_)
  have h1 : (i 1).val < 4096 := (i 1).isLt
  refine ⟨fun h => h 0, fun h a => ?_⟩
  refine Fin.cases ?_ (fun b => Fin.cases ?_ (fun c => c.elim0) b) a
  · exact h
  · show 0 ≤ (i 1).val ∧ (i 1).val < 0 + 4096; omega

theorem src_disjoint (a b : Fin 128) (h : a ≠ b) : Disjoint (src a).view.set (src b).view.set := by
  refine Finset.disjoint_left.mpr fun i ha hb => h (Fin.ext ?_)
  have ha' := (mem_src a i).mp ha
  have hb' := (mem_src b i).mp hb
  omega

theorem dst_disjoint (a b : Fin 128) (h : a ≠ b) : Disjoint (dst a).view.set (dst b).view.set := by
  refine Finset.disjoint_left.mpr fun i ha hb => h (Fin.ext ?_)
  have ha' := (mem_dst a i).mp ha
  have hb' := (mem_dst b i).mp hb
  omega

theorem src_cover : Finset.univ.biUnion (β := S32x524288.Idx) (fun j : Fin 128 => (src j).view.set) = Finset.univ := by
  refine Finset.eq_univ_iff_forall.mpr fun i => Finset.mem_biUnion.mpr ?_
  have h1 : ((i : S32x524288.Idx) 1).val < 524288 := ((i : S32x524288.Idx) 1).isLt
  have hj : ((i : S32x524288.Idx) 1).val / 4096 < 128 := by omega
  refine ⟨⟨_, hj⟩, Finset.mem_univ _, (mem_src ⟨_, hj⟩ i).mpr ⟨?_, ?_⟩⟩
  · show 4096 * (((i : S32x524288.Idx) 1).val / 4096) ≤ _; omega
  · show _ < 4096 * (((i : S32x524288.Idx) 1).val / 4096) + 4096; omega

theorem dst_cover : Finset.univ.biUnion (β := S4096x4096.Idx) (fun j : Fin 128 => (dst j).view.set) = Finset.univ := by
  refine Finset.eq_univ_iff_forall.mpr fun i => Finset.mem_biUnion.mpr ?_
  have h0 : ((i : S4096x4096.Idx) 0).val < 4096 := ((i : S4096x4096.Idx) 0).isLt
  have hj : ((i : S4096x4096.Idx) 0).val / 32 < 128 := by omega
  refine ⟨⟨_, hj⟩, Finset.mem_univ _, (mem_dst ⟨_, hj⟩ i).mpr ⟨?_, ?_⟩⟩
  · show 32 * (((i : S4096x4096.Idx) 0).val / 32) ≤ _; omega
  · show _ < 32 * (((i : S4096x4096.Idx) 0).val / 32) + 32; omega

/-! ## What the copies leave in the result -/

/-- The element of the transposed data the result's element `i` is a copy of. -/
def origin (i : S4096x4096.Idx) : S32x524288.Idx :=
  ValueIdx.ix2 (n0 := 32) (n1 := 524288) ⟨(i 0).val % 32, Nat.mod_lt _ (by decide)⟩
    ⟨4096 * ((i 0).val / 32) + (i 1).val, by
      have h0 : (i 0).val < 4096 := (i 0).isLt
      have h1 : (i 1).val < 4096 := (i 1).isLt
      omega⟩

/-- The result's contents, from the transposed data's. -/
def gathered {α : Type} (x : S32x524288.Idx → α) : S4096x4096.Idx → α := fun i => x (origin i)

/-- Copy `j` leaves the gathered contents on its panel. -/
theorem write_panel {α : EltTy → Type} (j : Fin 128) (x : S32x524288.Idx → α .f32) (y : S4096x4096.Idx → α .f32)
    (i : S4096x4096.Idx) (hi : i ∈ (dst j).view.set) :
    (dst j).view.write α y ((src j).view.read α x) Finset.univ i = gathered x i := by
  obtain ⟨w, -, hw⟩ := Finset.mem_map.mp hi
  rw [← hw, View.write_emb_of_mem _ _ (Finset.mem_univ _)]
  show x ((src j).view.emb w) = x (origin ((dst j).view.emb w))
  have hj := j.isLt
  have w0 : (w 0).val < 32 := (w 0).isLt
  have w1 : (w 1).val < 4096 := (w 1).isLt
  have d0 : (((dst j).view.emb w : S4096x4096.Idx) 0).val = 32 * j.val + (w 0).val :=
    ValueKit.view_emb_slice_whole_unit_val main_v1 _ _ (inb_dst j) w 0
  have d1 : (((dst j).view.emb w : S4096x4096.Idx) 1).val = 0 + (w 1).val :=
    ValueKit.view_emb_slice_whole_unit_val main_v1 _ _ (inb_dst j) w 1
  have s0 : (((src j).view.emb w : S32x524288.Idx) 0).val = 0 + (w 0).val :=
    ValueKit.view_emb_slice_whole_unit_val main_v0 _ _ (inb_src j) w 0
  have s1 : (((src j).view.emb w : S32x524288.Idx) 1).val = 4096 * j.val + (w 1).val :=
    ValueKit.view_emb_slice_whole_unit_val main_v0 _ _ (inb_src j) w 1
  refine congrArg x (funext fun a => Fin.ext ?_)
  refine Fin.cases ?_ (fun b => Fin.cases ?_ (fun c => c.elim0) b) a
  · refine s0.trans ?_
    show 0 + (w 0).val = (((dst j).view.emb w : S4096x4096.Idx) 0).val % 32
    omega
  · refine s1.trans ?_
    show 4096 * j.val + (w 1).val = 4096 * ((((dst j).view.emb w : S4096x4096.Idx) 0).val / 32) + (((dst j).view.emb w : S4096x4096.Idx) 1).val
    omega

/-! ## The body's run -/

/-- The proof's user algebra: the pipeline library's beside the transfers' counters. -/
local notation "𝕄" => MT nD τ sig Unit (Elt F) ℕ (Pipeline.UD sig nD τ) ℕ

/-- The panels of an array held one by one are the array held whole. -/
theorem src_whole (c : Dev nD) (f : Buf (Elt F) ((c : Thread nD τ).loc main_v0)) :
    (((c : Thread nD τ).loc main_v0) ↦{fullShare} f : sProp 𝕄)
      = bigSepL order fun j => (src j).view.loc (c : Thread nD τ) ↦[(src j).view.set]{fullShare} f := by
  rw [Ring.pointsTo_blocks (fun j : Fin 128 => (src j).view.set) src_disjoint src_cover]
  exact bigSep_univ_eq_bigSepL order (by simp [order]) (List.nodup_finRange 128) _

theorem dst_whole (c : Dev nD) (f : Buf (Elt F) ((c : Thread nD τ).loc main_v1)) :
    (((c : Thread nD τ).loc main_v1) ↦{fullShare} f : sProp 𝕄)
      = bigSepL order fun j => (dst j).view.loc (c : Thread nD τ) ↦[(dst j).view.set]{fullShare} f := by
  rw [Ring.pointsTo_blocks (fun j : Fin 128 => (dst j).view.set) dst_disjoint dst_cover]
  exact bigSep_univ_eq_bigSepL order (by simp [order]) (List.nodup_finRange 128) _

theorem sems_whole (c : Dev nD) :
    (Pipeline.ownSems0 (Ix := Unit) (Name := ℕ) (U := Pipeline.UD sig nD τ) (Lvl := ℕ) (Val := Elt F) (τ := τ) osem0 c : sProp 𝕄)
      = bigSepL order fun j => semVal ((c : Thread nD τ), SemLoc.dma (sem j)) 0 :=
  Pipeline.ownSems0_eq_of_list c osem0 order (by simp [order]) (List.nodup_finRange 128)

/-- The body's run: from the transposed data whole, the result at anything and the semaphores at zero, to the result
    holding the gathered contents, all else as it was. -/
theorem body_run (c : Dev nD) (f : Buf (Elt F) ((c : Thread nD τ).loc main_v0)) (g : Buf (Elt F) ((c : Thread nD τ).loc main_v1))
    (Q : PUnit → sProp 𝕄) :
    iprop((((c : Thread nD τ).loc main_v0) ↦{fullShare} f) ∗ (((c : Thread nD τ).loc main_v1) ↦{fullShare} g)
        ∗ (Pipeline.ownSems0 (Ix := Unit) (Name := ℕ) (U := Pipeline.UD sig nD τ) (Lvl := ℕ) (Val := Elt F) (τ := τ) osem0 c : sProp 𝕄)
        ∗ iprop(∃ W, owes (c : Thread nD τ) 0 W))
      ⊢ iprop((iprop((((c : Thread nD τ).loc main_v0) ↦{fullShare} f)
            ∗ (((c : Thread nD τ).loc main_v1) ↦{fullShare} (gathered f : Buf (Elt F) ((c : Thread nD τ).loc main_v1)))
            ∗ (Pipeline.ownSems0 (Ix := Unit) (Name := ℕ) (U := Pipeline.UD sig nD τ) (Lvl := ℕ) (Val := Elt F) (τ := τ) osem0 c : sProp 𝕄)
            ∗ iprop(∃ W, owes (c : Thread nD τ) 0 W)) -∗ Q ⟨⟩)
        -∗ wp frame (wpE (defs₀ (F := F)) Variants.none c none) Set.univ (bodyAt0 t0_0) Q) := by
  rw [src_whole, dst_whole, dst_whole, sems_whole]
  unfold bodyAt0
  rw [body_eq c]
  iintro ⟨Hs, Hd, Hv, HW⟩ Hk
  iapply (Fan.wp_fan (countersEmb (U := Pipeline.UD sig nD τ)) (c : Thread nD τ) src dst sem src_exact dst_exact typed Variants.none none ()
    ((dst 0).view.dmaCredit) (View.dmaCredit_pos _ (by decide)) (fun _ => rfl) (fun _ => rfl)
    (fun _ => f) (fun _ => g) order (pure ⟨⟩) Q) $$ [Hs Hd Hv HW]
  · isplitl [Hs Hd Hv]
    · iapply (Fan.bigSepL_three order _ _ _).2
      isplitl [Hs]; · iexact Hs
      isplitl [Hd] <;> iassumption
    iexact HW
  iintro ⟨H, HW⟩
  ihave H := (Fan.bigSepL_three order _ _ _).1 $$ H
  icases H with ⟨Hs, Hd, Hv⟩
  sl_step
  iapply Hk
  isplitl [Hs]; · iexact Hs
  isplitl [Hd]
  · iapply (bigSepL_mono (l := order) fun j _ => (Entails.of_eq (pointsTo_congr fun i hi => write_panel j f g i hi))) $$ Hd
  isplitl [Hv]; · iexact Hv
  iexact HW

/-! ## The launch -/

variable (m : (ℓ : Loc nD τ sig) → Buf (Elt F) ℓ) (ρ : Dev nD → PrngReg)

/-- `@main` up to the region: the transpose, then the kernel. -/
theorem hmain' (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

/-- The array the copies read, and the array they write. -/
def H0 : Finset (Ref sig .tc) := {main_v0}
def R0 : Finset (Ref sig .tc) := {main_v1}
theorem H0_sub : H0 ⊆ Pipeline.restRefs sig (cfg0.spec) := by decide
theorem R0_sub : R0 ⊆ Pipeline.restRefs sig (cfg0.spec) \ H0 := by decide

/-- The written array's contents after the region. -/
def G (c : Dev nD) (b : Ref sig .tc) : Buf (Elt F) ((c : Thread nD τ).loc b) :=
  Function.update (V m c) main_v1 (gathered (V m c main_v0)) b

theorem G_v1 (c : Dev nD) : G m c main_v1 = gathered (V m c main_v0) := Function.update_self ..

/-- The proof data of the one region: no window, the written array at its launch contents before the point and gathered
    after it. -/
def dats (_ : Fin 1) (c : Dev nD) : Dat τ (Elt F) Unit ℕ (Pipeline.UD sig nD τ) ℕ cfg0 c where
  A w := w.elim0
  after w _ := w.elim0
  Φ t := if t.val = 0 then Pipeline.ΦDRG osem0 (cfg0.spec) H0 R0 (V m) (V m) c else Pipeline.ΦDRG osem0 (cfg0.spec) H0 R0 (V m) (G m) c
  q _ := fullShare
  owed _ := 0

/-- The region's invariant, its parts named. -/
theorem phi_eq (W : (c : Dev nD) → (b : Ref sig .tc) → Buf (Elt F) ((c : Thread nD τ).loc b)) (c : Dev nD) :
    (Pipeline.ΦDRG osem0 (cfg0.spec) H0 R0 (V m) W c : sProp 𝕄)
      = iprop(BI.emp ∗ (∃ r, prngReg c r)
          ∗ Pipeline.ownSems0 (Ix := Unit) (Name := ℕ) (U := Pipeline.UD sig nD τ) (Lvl := ℕ) (Val := Elt F) (τ := τ) osem0 c
          ∗ (((c : Thread nD τ).loc main_v0) ↦{fullShare} V m c main_v0)
          ∗ (((c : Thread nD τ).loc main_v1) ↦{fullShare} W c main_v1)) := by
  rw [Pipeline.ΦDRG_eq, show Pipeline.scopedRest (cfg0.spec) c = (BI.emp : sProp 𝕄) from scopedRest0_eq c]
  unfold Pipeline.routed
  rw [BI.bigSep_eq_bigSepL_of_eq (S := H0) [main_v0] (by decide) (by decide),
    BI.bigSep_eq_bigSepL_of_eq (S := R0) [main_v1] (by decide) (by decide)]
  rfl

theorem sound_body (c : Dev nD) (t : Fin cfg0.N) :
    iprop((dats m 0 c).Φ t.castSucc ∗ (dats m 0 c).owesAt () t.castSucc)
      ⊢ wp frame (wpE (defs₀ (F := F)) Variants.none c none) Set.univ (bodyAt0 t)
          (fun _ => iprop((dats m 0 c).Φ t.succ ∗ (dats m 0 c).owesAt () t.succ)) := by
  obtain rfl := fin_N0 t
  have before : (dats m 0 c).Φ t0_0.castSucc = Pipeline.ΦDRG osem0 (cfg0.spec) H0 R0 (V m) (V m) c := by
    dsimp only [dats]; exact if_pos (by decide)
  have after : (dats m 0 c).Φ t0_0.succ = Pipeline.ΦDRG osem0 (cfg0.spec) H0 R0 (V m) (G m) c := by
    dsimp only [dats]; exact if_neg (by decide)
  rw [before, after, phi_eq, phi_eq]
  unfold Dat.owesAt Pipeline.owesWithin
  rw [show (dats m 0 c).owed t0_0.castSucc = 0 from rfl, show (dats m 0 c).owed t0_0.succ = 0 from rfl]
  iintro ⟨⟨-, Hg, Hv, Hs, Hd⟩, ⟨%W, -, HW⟩⟩
  iapply (body_run c (V m c main_v0) (V m c main_v1)) $$ [Hv Hs Hd HW]
  · isplitl [Hs]; · iexact Hs
    isplitl [Hd]; · iexact Hd
    isplitl [Hv]; · iexact Hv
    iexists W; iexact HW
  iintro ⟨Hs, Hd, Hv, ⟨%W', HW⟩⟩
  isplitl [Hg Hv Hs Hd]
  · isplitr; · iempintro
    isplitl [Hg]; · iexact Hg
    isplitl [Hv]; · iexact Hv
    isplitl [Hs]; · iexact Hs
    rw [G_v1]; iexact Hd
  iexists W'; isplitr
  · ipureintro; exact fun _ _ => Or.inl trivial
  iexact HW

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [defs₀_row]
  refine triple_restated (sound_body m c t) rfl ?_ fun _ => ?_
  · iintro ⟨Hp, Hw, -⟩
    isplitl [Hp]; · iexact Hp
    iexact Hw
  · rw [Finset.univ_eq_empty, BI.bigSep_empty]
    iintro ⟨Hp, Hw⟩
    isplitl [Hp]; · iexact Hp
    isplitl [Hw]; · iexact Hw
    iempintro

/-! ## The run -/

theorem A_eq (c : Dev nD) (w : Fin cfg0.W) : (dats (F := F) m 0 c).A w = V m c (Pipeline.arrRef (cfg0.spec) w)
    := w.elim0

set_option backward.isDefEq.respectTransparency.types false in
theorem run_main : θ_run defs (onTc (τ := τ) (main (F := F))) (s₀ m ρ)
    (fun r => Pipeline.FramePostRG cfgs (dats m) 0 R0 (V m) (G m) r ∧ r.2.sem = fun _ => 0) :=
  Pipeline.θ_run_frame_dmaRG (Q' := _) cfgs (dats m) (0 : Fin 1) launch0 osem0 defs₀ Variants.none ownSemFacts0 H0 R0 H0_sub R0_sub m ρ main
    (hbody := fun c => (body_obligation m c).loose) (hshare := fun c => (dats m 0 c).share_full fun _ => rfl)
    (howed := fun _ _ => rfl) (V := V m) (hmain := hmain' m Variants.none) (hA := A_eq m) (G := G m)
    (hin := fun _ => .rfl) (hout := fun _ => .rfl)

/-- The host writes the transposed data. -/
theorem V_v0 (c : Dev nD) : V m c main_v0
    = transpose S32x524288 [1, 0] (m ((c.tc : Thread nD τ).loc main_arg1)) transposes_S524288x32_S32x524288_1_0 :=
  by rw [V, StableHlo.after_cons, StableHlo.after_nil]; exact StableHlo.unary_result ..

/-- THE RUN: the program terminates without a fault, both arguments end unchanged, the result is the gathered transposed
    data, and every semaphore reads zero. -/
theorem run : θ_run defs (onTc (τ := τ) (main (F := F))) ⟨m, fun _ => 0, ρ⟩ (fun r => (∀ c : Dev nD,
      r.2.mem ((c.tc : Thread nD τ).loc main_v1) = gathered
        (transpose S32x524288 [1, 0] (m ((c.tc : Thread nD τ).loc main_arg1)) transposes_S524288x32_S32x524288_1_0)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨fun c =>
    ⟨(h.1.written c (b := main_v1) (by decide)).trans ((G_v1 m c).trans (congrArg gathered (V_v0 m c))),
     ((h.1.toR c).2 main_arg0 (Finset.mem_sdiff.mpr ⟨Pipeline.mem_restRefs_of main_arg0 (by decide) (by decide), by decide⟩)).trans (V_main_arg0 m c),
     ((h.1.toR c).2 main_arg1 (Finset.mem_sdiff.mpr ⟨Pipeline.mem_restRefs_of main_arg1 (by decide) (by decide), by decide⟩)).trans (V_main_arg1 m c)⟩, h.2⟩)
    (run_main m ρ)

end Cert.KernelIdeal.Hand

end
-- ==== Proof.RunKernel.lean ====
/-
  The kernel's program at the hardware's floats is the same text as the idealized one: its frame is that program's run, read there.
-/
module

public import proofs.«01_k».proof.Proof.RunIdeal
public import proofs.«01_k».proof.Proof.Gen.Kernel.Frame
public import Idealize.ShloMosaic.PureOps.BitExact

@[expose] public section

noncomputable section

namespace Cert.Kernel.Hand

open Cert.Kernel Cert.Kernel.Gen
open Idealize.ShloMosaic Idealize.ShloMosaic.TcCoe Idealize.SL.Sem

/-- THE KERNEL'S FRAME: the program terminates without a fault, both arguments end unchanged and every semaphore counter reads zero. -/
theorem frame (m : (ℓ : Loc nD τ sig) → Buf (Elt Bits) ℓ) (ρ : Dev nD → PrngReg) :
    θ_run (defs (F := Bits)) (onTc (τ := τ) (main (F := Bits))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run Cert.KernelIdeal.defs _ _).mono (fun _ h => ⟨fun c => (h.1 c).2, h.2⟩) (Cert.KernelIdeal.Hand.run (F := Bits) m ρ)

end Cert.Kernel.Hand

end
-- ==== Proof.RefIndex.lean ====
/-
  The index arithmetic of the reference, at any extents: a vector of counts filled by `zeros.at[idx].add(1)` and summed up
  to a position; and a scatter of one tile per index pair into a grid of tiles.
-/
module

public import Idealize.ShloMosaic.Lib.Routing.Words
public import Idealize.ShloMosaic.Lib.Routing.OpsPair
public import Idealize.ShloMosaic.Lib.Routing.OpsSet
public import Idealize.ShloMosaic.Lib.WordCmp
public import Idealize.ShloMosaic.Lib.Pipeline.Value

@[expose] public section

namespace Cert.RefIndex

open Idealize.ShloMosaic Idealize.ShloMosaic.ValueIdx Idealize.ShloMosaic.Routing Idealize.ShloMosaic.WordCmp

/-! ## Counting by a scatter -/

/-- Of `M` one-word updates of a vector, update `i` lands at `x` exactly when its word, read signed, is `x`. -/
theorem lands_vec {N M : Nat} (d : ScatterDims (shape1 N) (shape2 M 1) (shape1 M)) (huw : d.updateWindowDims = [])
    (hiw : d.insertedWindowDims = [0]) (hsd : d.scatterDimsToOperandDims = [0]) (hiv : d.indexVectorDim = 1)
    (idx : IVec (shape2 M 1) 32) (i : Fin M) (x : Fin N) :
    d.resultIdx? (ix1 i) idx = some (ix1 x) ↔ (idx (ix2 i (0 : Fin 1))).toInt = (x.val : Int) := by
  obtain ⟨uw, iw, sd, iv, wf⟩ := d
  dsimp only at huw hiw hsd hiv
  subst huw hiw hsd hiv
  rw [resultIdx?_ix1]
  have hw : ScatterDims.window (⟨[], [0], [0], 1, wf⟩ : ScatterDims (shape1 N) (shape2 M 1) (shape1 M)) (ix1 i) 0 = 0 := by
    unfold ScatterDims.window
    exact dif_neg (show ¬ (0 : Fin 1) ∈ (List.finRange 1).filter (· ∉ [(0 : Fin 1)]) by decide)
  have hs : ScatterDims.start (⟨[], [0], [0], 1, wf⟩ : ScatterDims (shape1 N) (shape2 M 1) (shape1 M)) (ix1 i) idx 0
      = (idx (ix2 i (0 : Fin 1))).toInt := by
    unfold ScatterDims.start
    rw [dif_pos (List.mem_singleton.2 rfl)]
    refine congrArg (fun k => (idx k).toInt) (funext fun b => Fin.ext ?_)
    match b with
    | ⟨0, _⟩ => rfl
    | ⟨1, _⟩ => rfl
  rw [hw, hs]
  simp

/-- A fold of ones over the positions with a property counts them. -/
theorem foldl_ones {ι : Type} (l : List ι) (hit : ι → Bool) (z : Nat) :
    l.foldl (fun (a : BitVec 32) n => if hit n = true then IntOp.addi a 1#32 else a) (BitVec.ofNat 32 z)
      = BitVec.ofNat 32 (z + l.countP hit) := by
  induction l generalizing z with
  | nil => rfl
  | cons n l ih =>
    rw [List.foldl_cons, List.countP_cons]
    by_cases h : hit n = true
    · rw [if_pos h, if_pos h, show IntOp.addi (BitVec.ofNat 32 z) 1#32 = BitVec.ofNat 32 (z + 1) from (BitVec.ofNat_add z 1).symm, ih]
      exact congrArg _ (by omega)
    · rw [if_neg h, if_neg h, ih]; rfl

/-- `zeros(N).at[idx].add(1)` over `M` words that hold `g 0, …, g (M - 1)`: entry `x` is the number of `i < M` with `g i = x`. -/
theorem hist {N M : Nat} (d : ScatterDims (shape1 N) (shape2 M 1) (shape1 M)) (huw : d.updateWindowDims = [])
    (hiw : d.insertedWindowDims = [0]) (hsd : d.scatterDimsToOperandDims = [0]) (hiv : d.indexVectorDim = 1)
    (x0 : IVec (shape1 N) 32) (hx0 : ∀ i, x0 i = 0#32) (idx : IVec (shape2 M 1) 32) (upd : IVec (shape1 M) 32) (hupd : ∀ i, upd i = 1#32)
    (g : Nat → Nat) (hg : ∀ i : Fin M, idx (ix2 i (0 : Fin 1)) = BitVec.ofNat 32 (g i.val)) (hg31 : ∀ i < M, g i < 2 ^ 31) (x : Fin N) :
    Host.scatter d IntOp.addi x0 idx upd (ix1 x) = BitVec.ofNat 32 (Nat.count (fun i => g i = x.val) M) := by
  have hit : ∀ n : Fin (shape1 M).numel, d.resultIdx? ((shape1 M).rowMajor.symm n) idx = some (ix1 x) ↔ g n.val = x.val := fun n => by
    have hn : n.val < M := n.isLt.trans_eq (numel1 M)
    rw [symm1, lands_vec d huw hiw hsd hiv, hg]
    refine (iff_of_eq (congrArg (· = (x.val : Int)) (StableHlo.Predicate.toInt_ofNat_small (g n.val) (hg31 _ hn)))).trans ?_
    show ((g n.val : Nat) : Int) = _ ↔ _
    omega
  rw [scatter_at, hx0]
  refine Eq.trans (?_ : _ = List.foldl (fun (a : BitVec 32) n => if decide (g n.val = x.val) = true then IntOp.addi a 1#32 else a)
    (BitVec.ofNat 32 0) (List.finRange (shape1 M).numel)) ?_
  · refine congrArg (fun f => List.foldl f (0#32 : BitVec 32) (List.finRange (shape1 M).numel)) (funext fun a => funext fun n => ?_)
    rw [hupd]
    exact if_congr ((hit n).trans decide_eq_true_iff.symm) rfl rfl
  · rw [foldl_ones, Nat.zero_add, countP_finRange _ (fun i => g i = x.val), numel1]

/-- The running sum of that histogram: entry `j` is the number of `i < M` with `g i ≤ j`. -/
theorem ranks {N Nm1 M : Nat} (hN : Nm1 + 1 = N) (d : ScatterDims (shape1 N) (shape2 M 1) (shape1 M)) (huw : d.updateWindowDims = [])
    (hiw : d.insertedWindowDims = [0]) (hsd : d.scatterDimsToOperandDims = [0]) (hiv : d.indexVectorDim = 1)
    (x0 : IVec (shape1 N) 32) (hx0 : ∀ i, x0 i = 0#32) (idx : IVec (shape2 M 1) 32) (upd : IVec (shape1 M) 32) (hupd : ∀ i, upd i = 1#32)
    (g : Nat → Nat) (hg : ∀ i : Fin M, idx (ix2 i (0 : Fin 1)) = BitVec.ofNat 32 (g i.val)) (hg31 : ∀ i < M, g i < 2 ^ 31)
    (init : IVec shape0 32) (hinit : init ix0 = 0#32)
    (h : (shape1 N).ReduceWindows (![N] : Fin 1 → Nat) ![1] ![Nm1] ![0] (shape1 N)) (hu : 0 < shape0.numel) (j : Fin N) :
    Host.reduceWindow IntOp.addi ![N] ![1] ![Nm1] ![0] (Host.scatter d IntOp.addi x0 idx upd) init h hu (ix1 j)
      = BitVec.ofNat 32 (Nat.count (fun i => g i ≤ j.val) M) :=
  (cumsum1 hN _ _ (hist d huw hiw hsd hiv x0 hx0 idx upd hupd g hg hg31) init hinit h hu j).trans
    (congrArg _ (sum_count_eq g j.val M))

/-- A property that exactly the numbers below `K` have holds of `K` numbers below `M`. -/
theorem count_below (p : Nat → Prop) [DecidablePred p] (M K : Nat) (hK : K ≤ M) (h : ∀ i < M, p i ↔ i < K) : Nat.count p M = K := by
  rw [Nat.count_eq_card_filter_range, show (Finset.range M).filter p = Finset.range K from ?_, Finset.card_range]
  ext i
  simp only [Finset.mem_filter, Finset.mem_range]
  exact ⟨fun q => (h i q.1).1 q.2, fun q => ⟨by omega, (h i (by omega)).2 q⟩⟩

/-- The column of index words, jnp's wrap of negative words applied: a word that holds a natural below `2 ^ 31` stays. -/
theorem wrapped {n : Nat} (v : IVec (shape1 n) 32) (a : BitVec 32)
    (hb : shape0.BroadcastsInDim (shape1 n) (![] : Fin 0 → Fin (shape1 n).rank))
    (hc : (shape1 n).BroadcastsInDim (shape2 n 1) (![0] : Fin 1 → Fin (shape2 n 1).rank)) (i : Fin n) (x : Nat)
    (hv : v (ix1 i) = BitVec.ofNat 32 x) (hx : x < 2 ^ 31) :
    broadcastInDim (shape2 n 1) ![0] hc (select (cmpi .slt v (broadcastInDim (shape1 n) ![] hb (constantI shape0 32 0#32)))
      (addi v (broadcastInDim (shape1 n) ![] hb (constantI shape0 32 a))) v) (ix2 i (0 : Fin 1)) = BitVec.ofNat 32 x := by
  rw [bcCol, select_at, cmpi_at, bc0, constantI_at, hv]
  exact wrap_of_lt _ _ (by rw [BitVec.toNat_ofNat]; omega)

/-- A scalar made a vector of one entry and that broadcast along a vector reads the scalar everywhere. -/
theorem bcTwice {α : Type} {n : Nat} (h₁ : shape0.BroadcastsInDim (shape1 1) (![] : Fin 0 → Fin (shape1 1).rank))
    (h₂ : (shape1 1).BroadcastsInDim (shape1 n) (![0] : Fin 1 → Fin (shape1 n).rank)) (v : shape0.Idx → α) (i : Fin n) :
    broadcastInDim (shape1 n) ![0] h₂ (broadcastInDim (shape1 1) ![] h₁ v) (ix1 i) = v ix0 := by
  unfold broadcastInDim
  exact congrArg v (funext fun a => a.elim0)

/-! ## A scatter of tiles -/

/-- Of two columns of words side by side, the left one. -/
theorem pair_left {M : Nat} (x y : IVec (shape2 M 1) 32) (h : Shape.Concatenates [shape2 M 1, shape2 M 1] (shape2 M 2) (1 : Fin 2))
    (n : Fin M) : concatenate (shape2 M 2) (1 : Fin 2) [⟨shape2 M 1, x⟩, ⟨shape2 M 1, y⟩] h (ix2 n (0 : Fin 2)) = x (ix2 n (0 : Fin 1)) :=
  concatenate_pair_apply_left (t := shape2 M 2) (1 : Fin 2) x y h (ix2 n (0 : Fin 2)) rfl (ix2 n (0 : Fin 1)) fun b => match b with
    | ⟨0, _⟩ => rfl
    | ⟨1, _⟩ => rfl

/-- Of two columns of words side by side, the right one. -/
theorem pair_right {M : Nat} (x y : IVec (shape2 M 1) 32) (h : Shape.Concatenates [shape2 M 1, shape2 M 1] (shape2 M 2) (1 : Fin 2))
    (n : Fin M) : concatenate (shape2 M 2) (1 : Fin 2) [⟨shape2 M 1, x⟩, ⟨shape2 M 1, y⟩] h (ix2 n (1 : Fin 2)) = y (ix2 n (0 : Fin 1)) :=
  concatenate_pair_apply_right (t := shape2 M 2) (1 : Fin 2) x y h (ix2 n (1 : Fin 2)) rfl rfl (ix2 n (0 : Fin 1)) (fun b => match b with
    | ⟨0, _⟩ => fun _ => rfl
    | ⟨1, _⟩ => fun hb => absurd rfl hb) rfl

/-- Of `M` updates by `[A, B]` tiles of an `[R, C]` grid of tiles, element `(a, b)` of update `n` lands at `ι` exactly when the two
    words of index `n`, read signed, are `ι`'s first two coordinates and `(a, b)` its last two. -/
theorem lands_tile {R C A B M : Nat} (d : ScatterDims (⟨4, ![R, C, A, B]⟩ : Shape) (shape2 M 2) (shape3 M A B))
    (huw : d.updateWindowDims = [1, 2]) (hiw : d.insertedWindowDims = [0, 1]) (hsd : d.scatterDimsToOperandDims = [0, 1])
    (hiv : d.indexVectorDim = 1) (idx : IVec (shape2 M 2) 32) (k : (shape3 M A B).Idx) (r : Fin R) (c : Fin C) (a : Fin A) (b : Fin B) :
    d.resultIdx? k idx = some (ix4 r c a b)
      ↔ (idx (ix2 (k 0 : Fin M) (0 : Fin 2))).toInt = (r.val : Int) ∧ (idx (ix2 (k 0 : Fin M) (1 : Fin 2))).toInt = (c.val : Int)
        ∧ (k 1).val = a.val ∧ (k 2).val = b.val := by
  obtain ⟨uw, iw, sd, iv, wf⟩ := d
  dsimp only at huw hiw hsd hiv
  subst huw hiw hsd hiv
  rw [resultIdx?_eq_some]
  generalize hd : (⟨[1, 2], [0, 1], [0, 1], 1, wf⟩ : ScatterDims (⟨4, ![R, C, A, B]⟩ : Shape) (shape2 M 2) (shape3 M A B)) = d
  have hw0 : d.window k 0 = 0 := by subst hd; exact dif_neg (show ¬ (0 : Fin 4) ∈ (List.finRange 4).filter (· ∉ [(0 : Fin 4), 1]) by decide)
  have hw1 : d.window k 1 = 0 := by subst hd; exact dif_neg (show ¬ (1 : Fin 4) ∈ (List.finRange 4).filter (· ∉ [(0 : Fin 4), 1]) by decide)
  have hw2 : d.window k 2 = (k 1).val := by subst hd; exact dif_pos (show (2 : Fin 4) ∈ (List.finRange 4).filter (· ∉ [(0 : Fin 4), 1]) by decide)
  have hw3 : d.window k 3 = (k 2).val := by subst hd; exact dif_pos (show (3 : Fin 4) ∈ (List.finRange 4).filter (· ∉ [(0 : Fin 4), 1]) by decide)
  have hs2 : d.start k idx 2 = 0 := by subst hd; exact dif_neg (show ¬ (2 : Fin 4) ∈ [(0 : Fin 4), 1] by decide)
  have hs3 : d.start k idx 3 = 0 := by subst hd; exact dif_neg (show ¬ (3 : Fin 4) ∈ [(0 : Fin 4), 1] by decide)
  have hs0 : d.start k idx 0 = (idx (ix2 (k 0 : Fin M) (0 : Fin 2))).toInt := by
    subst hd
    refine (dif_pos (show (0 : Fin 4) ∈ [(0 : Fin 4), 1] by decide)).trans (congrArg (fun q => (idx q).toInt) (funext fun b => Fin.ext ?_))
    match b with
    | ⟨0, _⟩ => rfl
    | ⟨1, _⟩ => rfl
  have hs1 : d.start k idx 1 = (idx (ix2 (k 0 : Fin M) (1 : Fin 2))).toInt := by
    subst hd
    refine (dif_pos (show (1 : Fin 4) ∈ [(0 : Fin 4), 1] by decide)).trans (congrArg (fun q => (idx q).toInt) (funext fun b => Fin.ext ?_))
    match b with
    | ⟨0, _⟩ => rfl
    | ⟨1, _⟩ => rfl
  constructor
  · intro h
    have h0 := h 0; have h1 := h 1; have h2 := h 2; have h3 := h 3
    rw [hs0, hw0] at h0; rw [hs1, hw1] at h1; rw [hs2, hw2] at h2; rw [hs3, hw3] at h3
    change _ + ((0 : Nat) : Int) = (r.val : Int) at h0
    change _ + ((0 : Nat) : Int) = (c.val : Int) at h1
    change 0 + _ = (a.val : Int) at h2
    change 0 + _ = (b.val : Int) at h3
    omega
  · rintro ⟨h0, h1, h2, h3⟩ q
    match q with
    | ⟨0, _⟩ => show d.start k idx 0 + (d.window k 0 : Int) = (r.val : Int); rw [hs0, hw0]; omega
    | ⟨1, _⟩ => show d.start k idx 1 + (d.window k 1 : Int) = (c.val : Int); rw [hs1, hw1]; omega
    | ⟨2, _⟩ => show d.start k idx 2 + (d.window k 2 : Int) = (a.val : Int); rw [hs2, hw2]; omega
    | ⟨3, _⟩ => show d.start k idx 3 + (d.window k 3 : Int) = (b.val : Int); rw [hs3, hw3]; omega

end Cert.RefIndex

end
-- ==== Proof.Reference.lean ====
/-
  The reference, evaluated where every block of the mask is stored: the words it finds for block `j` are its grid row `j / 128`
  and its grid column `j % 128`, so it leaves block `j` in that place, transposed, and its result at `(i, k)` is the data's
  element `(4096 * (i / 32) + k, i % 32)`.
-/
module

public import proofs.«01_k».proof.Proof.RefIndex
public import proofs.«01_k».proof.Proof.Gen.ReferenceIdeal.Run
public import Idealize.ShloMosaic.Lib.Pipeline.Value
public import Idealize.ShloMosaic.Lib.Quiescent

@[expose] public section

noncomputable section

namespace Cert.ReferenceIdeal.Hand

open Cert.ReferenceIdeal Cert.ReferenceIdeal.Gen Cert.ReferenceIdeal.Value Cert.RefIndex
open Idealize.ShloMosaic Idealize.ShloMosaic.TcCoe Idealize.SL.Sem Idealize.ShloMosaic.StableHlo
open Idealize.ShloMosaic.ValueIdx Idealize.ShloMosaic.Routing Idealize.ShloMosaic.WordCmp

variable {F : FTy → Type} [FloatOps F]

/-! ## The words the reference computes from a mask of ones -/

section Words

variable (V0 : Valuation τ sig (Elt F)) (hm : ∀ i, V0 (Proc.devRef .tc main_arg0) i = 1#1)
include hm

/-- The flattened mask, widened to words, is all ones. -/
theorem mask_word (j : Fin 16384) : extui 32 (res_main_v0 V0) natLt_1_32 (ix1 j) = BitVec.ofNat 32 1 := by
  show ((res_main_v0 V0) (ix1 j)).setWidth 32 = _
  rw [show (res_main_v0 V0) (ix1 j) = 1#1 from hm _]
  rfl

/-- The running count of stored blocks: `j + 1` at block `j`. -/
theorem v1_at (j : Fin 16384) : res_main_v1 V0 (ix1 j) = BitVec.ofNat 32 (j.val + 1) := by
  unfold res_main_v1
  refine (cumsum1 (N := 16384) (Nm1 := 16383) rfl _ (fun _ => 1) (fun i => mask_word V0 hm i) _ ?_ _ _ j).trans (congrArg _ ?_)
  · rfl
  · rw [List.map_const', List.sum_replicate, List.length_range, smul_eq_mul, Nat.mul_one]

/-- The flat position of the stored block number `j` is `j`. -/
theorem v11_at (j : Fin 16384) : res_main_v11 V0 (ix1 j) = BitVec.ofNat 32 j.val := by
  unfold res_main_v11
  refine (ranks (N := 16384) (Nm1 := 16383) (M := 16384) rfl _ rfl rfl rfl rfl _ ?_ _ _ ?_ (fun i => i + 1) ?_ ?_ _ ?_ _ _ j).trans
    (congrArg _ ?_)
  · exact fun _ => rfl
  · exact fun _ => rfl
  · exact fun i => wrapped _ _ _ _ i _ (v1_at V0 hm i) (by have := i.isLt; omega)
  · exact fun i hi => by omega
  · rfl
  · exact count_below _ _ _ (by have := j.isLt; omega) fun i _ => by omega

/-- No block number is at or above the number of stored blocks. -/
theorem v21_at (j : Fin 16384) : res_main_v21 V0 (ix1 j) = 0#1 := by
  unfold res_main_v21
  rw [cmpi_at]
  have hr : Host.reduce IntOp.addi (extui 32 (res_main_v0 V0) natLt_1_32) (constantI S_ 32 0#32) reducesTo_S16384_S_d0 h_S_ ix0
      = BitVec.ofNat 32 16384 := by
    refine (reduce_sum (N := 16384) _ (fun _ => 1) (fun i => mask_word V0 hm i) _ _).trans (congrArg _ ?_)
    rw [List.map_const', List.sum_replicate, List.length_range, smul_eq_mul, Nat.mul_one]
  have hb : broadcastInDim S16384 ![0] bcast_S1_S16384_0 (broadcastInDim S1 ![] bcast_S_S1
      (Host.reduce IntOp.addi (extui 32 (res_main_v0 V0) natLt_1_32) (constantI S_ 32 0#32) reducesTo_S16384_S_d0 h_S_)) (ix1 j)
      = BitVec.ofNat 32 16384 := by
    exact (bcTwice (n := 16384) _ _ _ j).trans hr
  rw [hb]
  have hj := j.isLt
  refine (cmpi_sge_ofNat (w := 32) (a := j.val) (b := 16384) (by omega) (by decide)).trans ?_
  rw [decide_eq_false (by omega)]
  rfl

/-- The grid column of block `j`. -/
theorem v23_at (j : Fin 16384) : res_main_v23 V0 (ix1 j) = BitVec.ofNat 32 (j.val % 128) := by
  have hj := j.isLt
  have hd : pyDiv bcast_S_S16384 (res_main_v11 V0) (constantI S_ 32 1#32) (ix1 j) = BitVec.ofNat 32 (j.val / 1) :=
    pyDiv_ap _ _ _ _ (v11_at V0 hm j) rfl (by omega) (by decide) (by decide)
  have hr : pyRem bcast_S_S16384 (pyDiv bcast_S_S16384 (res_main_v11 V0) (constantI S_ 32 1#32)) (constantI S_ 32 128#32) (ix1 j)
      = BitVec.ofNat 32 (j.val / 1 % 128) := pyRem_ap _ _ _ _ hd rfl (by omega) (by decide) (by decide)
  unfold res_main_v23
  rw [select_at, v21_at V0 hm, Scalar.select, if_neg (by decide)]
  exact hr.trans (by rw [Nat.div_one])

/-- One more than the grid row of block `j`. -/
theorem v26_at (j : Fin 16384) : res_main_v26 V0 (ix1 j) = BitVec.ofNat 32 (j.val / 128 + 1) := by
  have hj := j.isLt
  have hd : pyDiv bcast_S_S16384 (res_main_v11 V0) (constantI S_ 32 128#32) (ix1 j) = BitVec.ofNat 32 (j.val / 128) :=
    pyDiv_ap _ _ _ _ (v11_at V0 hm j) rfl (by omega) (by decide) (by decide)
  have hr : pyRem bcast_S_S16384 (pyDiv bcast_S_S16384 (res_main_v11 V0) (constantI S_ 32 128#32)) (constantI S_ 32 128#32) (ix1 j)
      = BitVec.ofNat 32 (j.val / 128 % 128) := pyRem_ap _ _ _ _ hd rfl (by omega) (by decide) (by decide)
  unfold res_main_v26
  rw [addi_ap, select_at, v21_at V0 hm, Scalar.select, if_neg (by decide)]
  refine (congrArg (· + 1#32) hr).trans ?_
  rw [Nat.mod_eq_of_lt (by omega), BitVec.ofNat_add]

/-- The row pointer after grid row `x`: `128 * (x + 1)` blocks. -/
theorem v37_at (x : Fin 128) : res_main_v37 V0 (ix1 x) = BitVec.ofNat 32 (128 * (x.val + 1)) := by
  have hx := x.isLt
  unfold res_main_v37
  refine (slice1 (m := 129) (n := 128) 1 _ _ x (by omega)).trans ?_
  refine (ranks (N := 129) (Nm1 := 128) (M := 16384) rfl _ rfl rfl rfl rfl _ ?_ _ _ ?_ (fun i => i / 128 + 1) ?_ ?_ _ ?_ _ _ _).trans
    (congrArg _ ?_)
  · exact fun _ => rfl
  · exact fun _ => rfl
  · exact fun i => wrapped _ _ _ _ i _ (v26_at V0 hm i) (by have := i.isLt; omega)
  · exact fun i hi => by omega
  · rfl
  · exact count_below _ _ _ (by omega) fun i _ => by show i / 128 + 1 ≤ 1 + x.val ↔ _; omega

/-- The grid row of block `j`: the number of row pointers at or below `j`. -/
theorem v47_at (j : Fin 16384) : res_main_v47 V0 (ix1 j) = BitVec.ofNat 32 (j.val / 128) := by
  have hj := j.isLt
  unfold res_main_v47
  refine (slice1 (m := 16385) (n := 16384) 0 _ _ j (by omega)).trans ?_
  refine (ranks (N := 16385) (Nm1 := 16384) (M := 128) rfl _ rfl rfl rfl rfl _ ?_ _ _ ?_ (fun i => 128 * (i + 1)) ?_ ?_ _ ?_ _ _ _).trans
    (congrArg _ ?_)
  · exact fun _ => rfl
  · exact fun _ => rfl
  · exact fun i => wrapped _ _ _ _ i _ (v37_at V0 hm i) (by have := i.isLt; omega)
  · exact fun i hi => by omega
  · rfl
  · exact count_below _ _ _ (by omega) fun i _ => by show 128 * (i + 1) ≤ 0 + j.val ↔ _; omega

end Words

/-! ## The grid of blocks -/

/-- The index pairs of the final scatter: block `n`'s grid row, then its grid column, each wrapped. -/
def places (V0 : Valuation τ sig (Elt F)) : IVec S16384x2 32 :=
  concatenate S16384x2 1 [⟨S16384x1, (broadcastInDim S16384x1 ![0] bcast_S16384_S16384x1_0 (select (cmpi .slt (res_main_v47 V0) (broadcastInDim S16384 ![] bcast_S_S16384 (constantI S_ 32 0#32))) (addi (res_main_v47 V0) (broadcastInDim S16384 ![] bcast_S_S16384 (constantI S_ 32 128#32))) (res_main_v47 V0)))⟩, ⟨S16384x1, (broadcastInDim S16384x1 ![0] bcast_S16384_S16384x1_0 (select (cmpi .slt (res_main_v23 V0) (broadcastInDim S16384 ![] bcast_S_S16384 (constantI S_ 32 0#32))) (addi (res_main_v23 V0) (broadcastInDim S16384 ![] bcast_S_S16384 (constantI S_ 32 128#32))) (res_main_v23 V0)))⟩] concatenates_S16384x1_S16384x1_S16384x2_d1

/-- The first word of pair `n` is `n / 128`. -/
theorem places_row (V0 : Valuation τ sig (Elt F)) (hm : ∀ i, V0 (Proc.devRef .tc main_arg0) i = 1#1) (n : Fin 16384) :
    places V0 (ix2 n (0 : Fin 2)) = BitVec.ofNat 32 (n.val / 128) := by
  have hn := n.isLt
  unfold places
  exact (pair_left (M := 16384) _ _ _ n).trans (wrapped _ _ _ _ n _ (v47_at V0 hm n) (by omega))

/-- The second word of pair `n` is `n % 128`. -/
theorem places_col (V0 : Valuation τ sig (Elt F)) (hm : ∀ i, V0 (Proc.devRef .tc main_arg0) i = 1#1) (n : Fin 16384) :
    places V0 (ix2 n (1 : Fin 2)) = BitVec.ofNat 32 (n.val % 128) := by
  have hn := n.isLt
  unfold places
  exact (pair_right (M := 16384) _ _ _ n).trans (wrapped _ _ _ _ n _ (v23_at V0 hm n) (by omega))

/-- The blocks as the scatter takes them: element `(a, b)` of block `n` is the data's `(32 * n + b, a)`. -/
def tiles (V0 : Valuation τ sig (Elt F)) : Vec F S16384x32x32 .f32 :=
  transpose S16384x32x32 [0, 2, 1] (shapeCast _ (V0 (Proc.devRef .tc main_arg1)) shapeCasts_S524288x32_S16384x32x32) transposes_S16384x32x32_S16384x32x32_0_2_1

/-- The data's element that element `(a, b)` of block `n` is. -/
theorem tiles_at (V0 : Valuation τ sig (Elt F)) (n : Fin 16384) (a b : Fin 32) (p : Fin 524288) (hp : p.val = 32 * n.val + b.val) :
    tiles V0 (ix3 n a b) = V0 (Proc.devRef .tc main_arg1) (ix2 (n0 := 524288) (n1 := 32) p a) := by
  unfold tiles
  refine (transpose_apply _ _ _ (ix3 n a b) (ix3 n b a) ?_).trans ?_
  · intro q
    match q with
    | ⟨0, _⟩ => rfl
    | ⟨1, _⟩ => rfl
    | ⟨2, _⟩ => rfl
  · refine shapeCast_apply _ _ _ _ ?_
    refine (Shape.rowMajor_val_two _).trans (Eq.trans ?_ (Shape.rowMajor_val_three _).symm)
    show p.val * 32 + a.val = (n.val * 32 + b.val) * 32 + a.val
    omega

/-- The reference's result as a term of the launch contents. -/
def result (V0 : Valuation τ sig (Elt F)) : Vec F S4096x4096 .f32 :=
  shapeCast _ (transpose S128x32x128x32 [0, 2, 1, 3] (Host.scatter scatter_S128x128x32x32_S16384x2_S16384x32x32_12_01_01_1 (fun _ b => b) (broadcastInDim S128x128x32x32 ![] bcast_S_S128x128x32x32 (constant S_ .f32 0x00000000#32)) (places V0) (tiles V0)) transposes_S128x128x32x32_S128x32x128x32_0_2_1_3) shapeCasts_S128x32x128x32_S4096x4096

/-- The grid's tile in row `r` and column `c` is block `128 * r + c`. -/
theorem grid_at (V0 : Valuation τ sig (Elt F)) (hm : ∀ i, V0 (Proc.devRef .tc main_arg0) i = 1#1) (z : Vec F S128x128x32x32 .f32)
    (r c : Fin 128) (a b : Fin 32) (n : Fin 16384) (hn : n.val = 128 * r.val + c.val) :
    Host.scatter scatter_S128x128x32x32_S16384x2_S16384x32x32_12_01_01_1 (fun _ b => b) z (places V0) (tiles V0) (ix4 r c a b)
      = tiles V0 (ix3 n a b) := by
  have hc := c.isLt
  have hits : ∀ k : S16384x32x32.Idx,
      (scatter_S128x128x32x32_S16384x2_S16384x32x32_12_01_01_1).resultIdx? k (places V0) = some (ix4 r c a b) ↔ k = ix3 n a b := by
    intro k
    obtain ⟨n', a', b', rfl⟩ : ∃ (n' : Fin 16384) (a' b' : Fin 32), k = ix3 n' a' b' := ⟨k 0, k 1, k 2, eq_ix3 k⟩
    refine (lands_tile (R := 128) (C := 128) (A := 32) (B := 32) (M := 16384) _ rfl rfl rfl rfl _ _ r c a b).trans ?_
    have hn' := n'.isLt
    rw [show (places V0 (ix2 ((ix3 n' a' b' : S16384x32x32.Idx) 0 : Fin 16384) (0 : Fin 2))).toInt = ((n'.val / 128 : Nat) : Int) from
        (congrArg BitVec.toInt (places_row V0 hm n')).trans (StableHlo.Predicate.toInt_ofNat_small _ (by omega)),
      show (places V0 (ix2 ((ix3 n' a' b' : S16384x32x32.Idx) 0 : Fin 16384) (1 : Fin 2))).toInt = ((n'.val % 128 : Nat) : Int) from
        (congrArg BitVec.toInt (places_col V0 hm n')).trans (StableHlo.Predicate.toInt_ofNat_small _ (by omega))]
    constructor
    · rintro ⟨h0, h1, h2, h3⟩
      obtain rfl : n' = n := Fin.ext (by omega)
      obtain rfl : a' = a := Fin.ext h2
      obtain rfl : b' = b := Fin.ext h3
      rfl
    · intro h
      obtain rfl : n' = n := congrFun h 0
      obtain rfl : a' = a := congrFun h 1
      obtain rfl : b' = b := congrFun h 2
      exact ⟨by omega, by omega, rfl, rfl⟩
  exact scatter_set_hit _ _ _ _ _ _ (fun k hk => congrArg (tiles V0) ((hits k).1 hk)) _ ((hits _).2 rfl)

/-- Element `(i, k)` of the result is the data's element `(4096 * (i / 32) + k, i % 32)`. -/
theorem result_at (V0 : Valuation τ sig (Elt F)) (hm : ∀ i, V0 (Proc.devRef .tc main_arg0) i = 1#1) (i k : Fin 4096)
    (p : Fin 524288) (hp : p.val = 4096 * (i.val / 32) + k.val) (a : Fin 32) (ha : a.val = i.val % 32) :
    result V0 (ix2 i k) = V0 (Proc.devRef .tc main_arg1) (ix2 (n0 := 524288) (n1 := 32) p a) := by
  have hi := i.isLt
  have hk := k.isLt
  obtain ⟨r, hr⟩ : ∃ r : Fin 128, r.val = i.val / 32 := ⟨⟨i.val / 32, by omega⟩, rfl⟩
  obtain ⟨c, hc⟩ : ∃ c : Fin 128, c.val = k.val / 32 := ⟨⟨k.val / 32, by omega⟩, rfl⟩
  obtain ⟨b, hb⟩ : ∃ b : Fin 32, b.val = k.val % 32 := ⟨⟨k.val % 32, by omega⟩, rfl⟩
  obtain ⟨n, hn⟩ : ∃ n : Fin 16384, n.val = 128 * r.val + c.val := ⟨⟨128 * r.val + c.val, by omega⟩, rfl⟩
  unfold result
  refine (shapeCast_apply _ _ (ix2 i k) (ix4 r a c b) ?_).trans ?_
  · refine (Shape.rowMajor_val_four _).trans (Eq.trans ?_ (Shape.rowMajor_val_two _).symm)
    show ((r.val * 32 + a.val) * 128 + c.val) * 32 + b.val = i.val * 4096 + k.val
    omega
  refine (transpose_apply _ _ _ (ix4 r a c b) (ix4 r c a b) ?_).trans ?_
  · intro q
    match q with
    | ⟨0, _⟩ => rfl
    | ⟨1, _⟩ => rfl
    | ⟨2, _⟩ => rfl
    | ⟨3, _⟩ => rfl
  exact (grid_at V0 hm _ r c a b n hn).trans (tiles_at V0 n a b p (by omega))

/-! ## The run -/

/-- THE REFERENCE'S RUN: the program terminates without a fault, its result is `result` of the launch contents, both arguments end
    unchanged and every semaphore counter reads zero. -/
theorem run (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v66) = result (launchContents m c)
      ∧ r.2.mem ((c.tc : Thread nD τ).loc main_arg0) = m ((c.tc : Thread nD τ).loc main_arg0)
      ∧ r.2.mem ((c.tc : Thread nD τ).loc main_arg1) = m ((c.tc : Thread nD τ).loc main_arg1))
      ∧ r.2.sem = fun _ => 0) :=
  (θ_run defs _ _).mono (fun _ h => ⟨h, sem_eq_zero_of_no_sems rfl _⟩) (Cert.ReferenceIdeal.Value.run m ρ)

end Cert.ReferenceIdeal.Hand

end
-- ==== Proof.lean ====
/-
  The proof of `Cert.Claim`: the kernel's run with its value (`Proof/RunIdeal.lean`), the same program's run at the hardware's floats
  (`Proof/RunKernel.lean`), the reference's run and its value (`Proof/Reference.lean`), and, here, that the two values are one.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Pre_all_blocks_stored
public import Idealize.ShloMosaic.Adequacy
public import Idealize.ShloMosaic.Init
public import proofs.«01_k».proof.Proof.Gen.ReferenceIdeal.Run
public import proofs.«01_k».proof.Proof.RunIdeal
public import proofs.«01_k».proof.Proof.RunKernel
public import proofs.«01_k».proof.Proof.Reference
public import Idealize.ShloMosaic.Lib.ReduceAll

@[expose] public section

noncomputable section

namespace Cert.Proof

open Idealize.ShloMosaic Idealize.SL.Sem

/-- Where the precondition holds, every block of the mask is stored. -/
theorem mask_ones (a0 : IVec Cert.KernelIdeal.S128x128 1) (a1 : FVec Ideal Cert.KernelIdeal.S524288x32 .f32)
    (h : Cert.Pre_all_blocks_stored.fn (F := Ideal) a0 a1 = fun _ => 1#1) (i : Cert.KernelIdeal.S128x128.Idx) : a0 i = 1#1 := by
  haveI : Subsingleton Cert.Pre_all_blocks_stored.S_.Idx := ⟨fun _ _ => funext fun a => a.elim0⟩
  have e := congrFun h ValueIdx.ix0
  unfold Cert.Pre_all_blocks_stored.fn at e
  exact Host.reduce_andi_all a0 _ _ _ _ e i

/-- Where every block is stored, the kernel's result and the reference's are the same element of the data at every index. -/
theorem values_eq (V0 : Valuation Cert.ReferenceIdeal.τ Cert.ReferenceIdeal.sig (Elt Ideal))
    (hm : ∀ i, V0 (Proc.devRef .tc Cert.ReferenceIdeal.main_arg0) i = 1#1) (x : FVec Ideal Cert.KernelIdeal.S524288x32 .f32)
    (hx : V0 (Proc.devRef .tc Cert.ReferenceIdeal.main_arg1) = x) :
    Cert.ReferenceIdeal.Hand.result V0 = Cert.KernelIdeal.Hand.gathered
      (transpose Cert.KernelIdeal.S32x524288 [1, 0] x Cert.KernelIdeal.Gen.transposes_S524288x32_S32x524288_1_0) := by
  subst hx
  funext j
  obtain ⟨i, k, rfl⟩ : ∃ (i k : Fin 4096), j = ValueIdx.ix2 i k := ⟨j 0, j 1, ValueIdx.eq_ix2 j⟩
  have hi := i.isLt
  have hk := k.isLt
  refine (Cert.ReferenceIdeal.Hand.result_at V0 hm i k ⟨4096 * (i.val / 32) + k.val, by omega⟩ rfl ⟨i.val % 32, by omega⟩ rfl).trans
    (transpose_apply _ _ _ _ _ fun b => ?_).symm
  match b with
  | ⟨0, _⟩ => rfl
  | ⟨1, _⟩ => rfl

/-- Everything claimed. -/
theorem claim : Cert.Claim := by
  have frameKI : Cert.quiescent_KernelIdeal := fun m g _ =>
    (θ_run _ _ _).mono (fun _ h => ⟨fun c => (h.1 c).2, h.2⟩) (Cert.KernelIdeal.Hand.run m g)
  have frameRI : Cert.quiescent_ReferenceIdeal := fun m g _ =>
    (θ_run _ _ _).mono (fun _ h => ⟨fun c => (h.1 c).2, h.2⟩) (Cert.ReferenceIdeal.Hand.run m g)
  refine ⟨Cert.Kernel.Gen.facts, Cert.KernelIdeal.Gen.facts, Cert.ReferenceIdeal.Gen.facts, Cert.Pre_all_blocks_stored.Gen.facts,
    fun m g _ => Cert.Kernel.Hand.frame m g, frameKI, fun m g _ => frameKI m g trivial, frameRI, fun m g _ => frameRI m g trivial,
    trivial, ?_⟩
  intro m g m' g' hp ha
  refine ⟨_, (θ_run _ _ _).mono (fun _ h => h.1) (Cert.KernelIdeal.Hand.run m g),
    (θ_run _ _ _).mono (fun _ h c => ⟨(h.1 c).1.trans ?_, (h.1 c).2⟩) (Cert.ReferenceIdeal.Hand.run m' g')⟩
  exact values_eq (StableHlo.launchContents m' c) (fun i => (congrFun (ha c).1 i).trans (mask_ones _ _ (hp c) i)) _ (ha c).2

end Cert.Proof

end
